-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v503) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x197x768 : Shape := ⟨3, ![64, 197, 768]⟩
abbrev S64x197 : Shape := ⟨2, ![64, 197]⟩
abbrev S768x768 : Shape := ⟨2, ![768, 768]⟩
abbrev S768 : Shape := ⟨1, ![768]⟩
abbrev S1536x60 : Shape := ⟨2, ![1536, 60]⟩
abbrev S60 : Shape := ⟨1, ![60]⟩
abbrev S60x60 : Shape := ⟨2, ![60, 60]⟩
abbrev S60x2 : Shape := ⟨2, ![60, 2]⟩
abbrev S2 : Shape := ⟨1, ![2]⟩
abbrev S1x768 : Shape := ⟨2, ![1, 768]⟩
abbrev S768x60 : Shape := ⟨2, ![768, 60]⟩
abbrev S1x60 : Shape := ⟨2, ![1, 60]⟩
abbrev S1x2 : Shape := ⟨2, ![1, 2]⟩
abbrev S8x197x768 : Shape := ⟨3, ![8, 197, 768]⟩
abbrev S1x197x768 : Shape := ⟨3, ![1, 197, 768]⟩
abbrev S197x768 : Shape := ⟨2, ![197, 768]⟩
abbrev S196x768 : Shape := ⟨2, ![196, 768]⟩
abbrev S196x60 : Shape := ⟨2, ![196, 60]⟩
abbrev S196x2 : Shape := ⟨2, ![196, 2]⟩
abbrev S196x1 : Shape := ⟨2, ![196, 1]⟩
abbrev S196x196 : Shape := ⟨2, ![196, 196]⟩
abbrev S1x196 : Shape := ⟨2, ![1, 196]⟩
abbrev S108x196 : Shape := ⟨2, ![108, 196]⟩
abbrev S108x768 : Shape := ⟨2, ![108, 768]⟩
abbrev S108x1536 : Shape := ⟨2, ![108, 1536]⟩
abbrev S196x1536 : Shape := ⟨2, ![196, 1536]⟩
abbrev S197 : Shape := ⟨1, ![197]⟩
abbrev S197x1 : Shape := ⟨2, ![197, 1]⟩

abbrev nBuf : Space → Nat
  | .hbm => 23
  | .vmem => 17
  | .smem => 0
  | _ => 0

abbrev bufTy : (tb : Table) → Fin (tcTables nBuf tb) → BufTy
  | .hbm, ⟨0, _⟩ => ⟨S64x197x768, .f32⟩
  | .hbm, ⟨1, _⟩ => ⟨S64x197, .i1⟩
  | .hbm, ⟨2, _⟩ => ⟨S768x768, .f32⟩
  | .hbm, ⟨3, _⟩ => ⟨S768, .f32⟩
  | .hbm, ⟨4, _⟩ => ⟨S768x768, .f32⟩
  | .hbm, ⟨5, _⟩ => ⟨S768, .f32⟩
  | .hbm, ⟨6, _⟩ => ⟨S768x768, .f32⟩
  | .hbm, ⟨7, _⟩ => ⟨S768, .f32⟩
  | .hbm, ⟨8, _⟩ => ⟨S1536x60, .f32⟩
  | .hbm, ⟨9, _⟩ => ⟨S60, .f32⟩
  | .hbm, ⟨10, _⟩ => ⟨S60x60, .f32⟩
  | .hbm, ⟨11, _⟩ => ⟨S60, .f32⟩
  | .hbm, ⟨12, _⟩ => ⟨S60x2, .f32⟩
  | .hbm, ⟨13, _⟩ => ⟨S2, .f32⟩
  | .hbm, ⟨14, _⟩ => ⟨S1x768, .f32⟩
  | .hbm, ⟨15, _⟩ => ⟨S1x768, .f32⟩
  | .hbm, ⟨16, _⟩ => ⟨S1x768, .f32⟩
  | .hbm, ⟨17, _⟩ => ⟨S768x60, .f32⟩
  | .hbm, ⟨18, _⟩ => ⟨S768x60, .f32⟩
  | .hbm, ⟨19, _⟩ => ⟨S1x60, .f32⟩
  | .hbm, ⟨20, _⟩ => ⟨S1x60, .f32⟩
  | .hbm, ⟨21, _⟩ => ⟨S1x2, .f32⟩
  | .hbm, ⟨22, _⟩ => ⟨S64x197x768, .f32⟩
  | .local _ .vmem, ⟨0, _⟩ => ⟨S8x197x768, .f32⟩
  | .local _ .vmem, ⟨1, _⟩ => ⟨S8x197x768, .f32⟩
  | .local _ .vmem, ⟨2, _⟩ => ⟨S768x768, .f32⟩
  | .local _ .vmem, ⟨3, _⟩ => ⟨S1x768, .f32⟩
  | .local _ .vmem, ⟨4, _⟩ => ⟨S768x768, .f32⟩
  | .local _ .vmem, ⟨5, _⟩ => ⟨S1x768, .f32⟩
  | .local _ .vmem, ⟨6, _⟩ => ⟨S768x768, .f32⟩
  | .local _ .vmem, ⟨7, _⟩ => ⟨S1x768, .f32⟩
  | .local _ .vmem, ⟨8, _⟩ => ⟨S768x60, .f32⟩
  | .local _ .vmem, ⟨9, _⟩ => ⟨S768x60, .f32⟩
  | .local _ .vmem, ⟨10, _⟩ => ⟨S1x60, .f32⟩
  | .local _ .vmem, ⟨11, _⟩ => ⟨S60x60, .f32⟩
  | .local _ .vmem, ⟨12, _⟩ => ⟨S1x60, .f32⟩
  | .local _ .vmem, ⟨13, _⟩ => ⟨S60x2, .f32⟩
  | .local _ .vmem, ⟨14, _⟩ => ⟨S1x2, .f32⟩
  | .local _ .vmem, ⟨15, _⟩ => ⟨S8x197x768, .f32⟩
  | .local _ .vmem, ⟨16, _⟩ => ⟨S8x197x768, .f32⟩
  | _, _ => ⟨S64x197x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_v7 : Ref sig .tc := ⟨.hbm, 21, rfl⟩
abbrev main_v0 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg14_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem14_1 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x197x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x768 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S768x60 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S768x60 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x60 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S60x60 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x60 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S60x2 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S8x197x768 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]
-- ==== ReferenceIdeal.lean ====
abbrev S64x197x768 : Shape := ⟨3, ![64, 197, 768]⟩
abbrev S64x197 : Shape := ⟨2, ![64, 197]⟩
abbrev S768x768 : Shape := ⟨2, ![768, 768]⟩
abbrev S768 : Shape := ⟨1, ![768]⟩
abbrev S1536x60 : Shape := ⟨2, ![1536, 60]⟩
abbrev S60 : Shape := ⟨1, ![60]⟩
abbrev S60x60 : Shape := ⟨2, ![60, 60]⟩
abbrev S60x2 : Shape := ⟨2, ![60, 2]⟩
abbrev S2 : Shape := ⟨1, ![2]⟩
abbrev S1x1x768 : Shape := ⟨3, ![1, 1, 768]⟩
abbrev S64x196x768 : Shape := ⟨3, ![64, 196, 768]⟩
abbrev S64x768x196 : Shape := ⟨3, ![64, 768, 196]⟩
abbrev S64x768x14x14 : Shape := ⟨4, ![64, 768, 14, 14]⟩
abbrev S64x196x1536 : Shape := ⟨3, ![64, 196, 1536]⟩
abbrev S64x196x60 : Shape := ⟨3, ![64, 196, 60]⟩
abbrev S1x1x60 : Shape := ⟨3, ![1, 1, 60]⟩
abbrev S_ : Shape := ⟨0, ![]⟩
abbrev S64x196x2 : Shape := ⟨3, ![64, 196, 2]⟩
abbrev S1x1x2 : Shape := ⟨3, ![1, 1, 2]⟩
abbrev S64x196x1 : Shape := ⟨3, ![64, 196, 1]⟩
abbrev S64x392x1 : Shape := ⟨3, ![64, 392, 1]⟩
abbrev S64x14x14x2 : Shape := ⟨4, ![64, 14, 14, 2]⟩
abbrev S64x14x14x1 : Shape := ⟨4, ![64, 14, 14, 1]⟩
abbrev S64x14x14 : Shape := ⟨3, ![64, 14, 14]⟩
abbrev S64 : Shape := ⟨1, ![64]⟩
abbrev S64x1x1 : Shape := ⟨3, ![64, 1, 1]⟩
abbrev S64x14x14x3 : Shape := ⟨4, ![64, 14, 14, 3]⟩
abbrev S64x14x14x768 : Shape := ⟨4, ![64, 14, 14, 768]⟩
abbrev S64x1x768 : Shape := ⟨3, ![64, 1, 768]⟩
abbrev S64x197x1 : Shape := ⟨3, ![64, 197, 1]⟩

abbrev nBuf : Space → Nat
  | .hbm => 745
  | .vmem => 0
  | .smem => 0
  | _ => 0

abbrev hbmTy0_0 (i : Nat) : BufTy := match i % 128 with
  | 0 => ⟨S64x197x768, .f32⟩
  | 1 => ⟨S64x197, .i1⟩
  | 2 => ⟨S768x768, .f32⟩
  | 3 => ⟨S768, .f32⟩
  | 4 => ⟨S768x768, .f32⟩
  | 5 => ⟨S768, .f32⟩
  | 6 => ⟨S768x768, .f32⟩
  | 7 => ⟨S768, .f32⟩
  | 8 => ⟨S1536x60, .f32⟩
  | 9 => ⟨S60, .f32⟩
  | 10 => ⟨S60x60, .f32⟩
  | 11 => ⟨S60, .f32⟩
  | 12 => ⟨S60x2, .f32⟩
  | 13 => ⟨S2, .f32⟩
  | 14 => ⟨S64x197x768, .f32⟩
  | 15 => ⟨S1x1x768, .f32⟩
  | 16 => ⟨S64x197x768, .f32⟩
  | 17 => ⟨S64x197x768, .f32⟩
  | 18 => ⟨S64x197x768, .f32⟩
  | 19 => ⟨S1x1x768, .f32⟩
  | 20 => ⟨S64x197x768, .f32⟩
  | 21 => ⟨S64x197x768, .f32⟩
  | 22 => ⟨S64x197x768, .f32⟩
  | 23 => ⟨S1x1x768, .f32⟩
  | 24 => ⟨S64x197x768, .f32⟩
  | 25 => ⟨S64x197x768, .f32⟩
  | 26 => ⟨S64x196x768, .f32⟩
  | 27 => ⟨S64x196x768, .f32⟩
  | 28 => ⟨S64x196x768, .f32⟩
  | 29 => ⟨S64x768x196, .f32⟩
  | 30 => ⟨S64x768x14x14, .f32⟩
  | 31 => ⟨S64x768x196, .f32⟩
  | 32 => ⟨S64x768x14x14, .f32⟩
  | 33 => ⟨S64x196x1536, .f32⟩
  | 34 => ⟨S64x196x60, .f32⟩
  | 35 => ⟨S1x1x60, .f32⟩
  | 36 => ⟨S64x196x60, .f32⟩
  | 37 => ⟨S64x196x60, .f32⟩
  | 38 => ⟨S_, .f32⟩
  | 39 => ⟨S64x196x60, .f32⟩
  | 40 => ⟨S64x196x60, .f32⟩
  | 41 => ⟨S64x196x60, .f32⟩
  | 42 => ⟨S1x1x60, .f32⟩
  | 43 => ⟨S64x196x60, .f32⟩
  | 44 => ⟨S64x196x60, .f32⟩
  | 45 => ⟨S_, .f32⟩
  | 46 => ⟨S64x196x60, .f32⟩
  | 47 => ⟨S64x196x60, .f32⟩
  | 48 => ⟨S64x196x2, .f32⟩
  | 49 => ⟨S1x1x2, .f32⟩
  | 50 => ⟨S64x196x2, .f32⟩
  | 51 => ⟨S64x196x2, .f32⟩
  | 52 => ⟨S64x196x2, .f32⟩
  | 53 => ⟨S64x196x2, .f32⟩
  | 54 => ⟨S_, .f32⟩
  | 55 => ⟨S64x196x2, .f32⟩
  | 56 => ⟨S64x196x2, .f32⟩
  | 57 => ⟨S_, .f32⟩
  | 58 => ⟨S64x196x2, .f32⟩
  | 59 => ⟨S64x196x2, .f32⟩
  | 60 => ⟨S64x196x1, .f32⟩
  | 61 => ⟨S64x196x1, .f32⟩
  | 62 => ⟨S64x392x1, .f32⟩
  | 63 => ⟨S64x14x14x2, .f32⟩
  | 64 => ⟨S64x14x14x1, .f32⟩
  | 65 => ⟨S64x14x14, .f32⟩
  | 66 => ⟨S64x14x14x1, .f32⟩
  | 67 => ⟨S64x14x14, .f32⟩
  | 68 => ⟨S_, .f32⟩
  | 69 => ⟨S64x14x14, .f32⟩
  | 70 => ⟨S64x14x14, .f32⟩
  | 71 => ⟨S_, .f32⟩
  | 72 => ⟨S64x14x14, .f32⟩
  | 73 => ⟨S64x14x14, .f32⟩
  | 74 => ⟨S_, .f32⟩
  | 75 => ⟨S64x14x14, .f32⟩
  | 76 => ⟨S64x14x14, .f32⟩
  | 77 => ⟨S_, .f32⟩
  | 78 => ⟨S64x14x14, .f32⟩
  | 79 => ⟨S64x14x14, .f32⟩
  | 80 => ⟨S_, .f32⟩
  | 81 => ⟨S64x14x14, .f32⟩
  | 82 => ⟨S64x14x14, .f32⟩
  | 83 => ⟨S_, .f32⟩
  | 84 => ⟨S64x14x14, .f32⟩
  | 85 => ⟨S64x14x14, .f32⟩
  | 86 => ⟨S_, .f32⟩
  | 87 => ⟨S64x14x14, .f32⟩
  | 88 => ⟨S64x14x14, .f32⟩
  | 89 => ⟨S_, .f32⟩
  | 90 => ⟨S64x14x14, .f32⟩
  | 91 => ⟨S64x14x14, .f32⟩
  | 92 => ⟨S64x14x14, .f32⟩
  | 93 => ⟨S64x14x14, .f32⟩
  | 94 => ⟨S_, .f32⟩
  | 95 => ⟨S64x14x14, .f32⟩
  | 96 => ⟨S64x14x14, .f32⟩
  | 97 => ⟨S_, .f32⟩
  | 98 => ⟨S64x14x14, .f32⟩
  | 99 => ⟨S64x14x14, .f32⟩
  | 100 => ⟨S64x14x14, .f32⟩
  | 101 => ⟨S_, .f32⟩
  | 102 => ⟨S64x14x14, .f32⟩
  | 103 => ⟨S64x14x14, .f32⟩
  | 104 => ⟨S64x14x14, .f32⟩
  | 105 => ⟨S_, .f32⟩
  | 106 => ⟨S64x14x14, .f32⟩
  | 107 => ⟨S64x14x14, .f32⟩
  | 108 => ⟨S64x14x14, .i32⟩
  | 109 => ⟨S64x14x14, .i32⟩
  | 110 => ⟨S_, .i32⟩
  | 111 => ⟨S64x14x14, .i32⟩
  | 112 => ⟨S64x14x14, .i1⟩
  | 113 => ⟨S_, .i32⟩
  | 114 => ⟨S64x14x14, .i32⟩
  | 115 => ⟨S64x14x14, .i1⟩
  | 116 => ⟨S64x14x14, .i1⟩
  | 117 => ⟨S_, .i32⟩
  | 118 => ⟨S64x14x14, .i32⟩
  | 119 => ⟨S64x14x14, .i1⟩
  | 120 => ⟨S64x14x14, .i1⟩
  | 121 => ⟨S_, .i32⟩
  | 122 => ⟨S64x14x14, .i32⟩
  | 123 => ⟨S64x14x14, .i1⟩
  | 124 => ⟨S64x14x14, .i1⟩
  | 125 => ⟨S_, .i32⟩
  | 126 => ⟨S_, .i32⟩
  | 127 => ⟨S_, .i32⟩
  | _ => ⟨S64x197x768, .f32⟩

abbrev hbmTy0_1 (i : Nat) : BufTy := match i % 128 with
  | 0 => ⟨S64x14x14, .i32⟩
  | 1 => ⟨S64x14x14, .i32⟩
  | 2 => ⟨S_, .i32⟩
  | 3 => ⟨S64x14x14, .i32⟩
  | 4 => ⟨S64x14x14, .i32⟩
  | 5 => ⟨S_, .i32⟩
  | 6 => ⟨S_, .i32⟩
  | 7 => ⟨S_, .i32⟩
  | 8 => ⟨S64x14x14, .i32⟩
  | 9 => ⟨S64x14x14, .i32⟩
  | 10 => ⟨S_, .i32⟩
  | 11 => ⟨S64x14x14, .i32⟩
  | 12 => ⟨S64x14x14, .i32⟩
  | 13 => ⟨S64, .i32⟩
  | 14 => ⟨S64x1x1, .i32⟩
  | 15 => ⟨S_, .i32⟩
  | 16 => ⟨S64x1x1, .i32⟩
  | 17 => ⟨S64x1x1, .i1⟩
  | 18 => ⟨S_, .i32⟩
  | 19 => ⟨S64x1x1, .i32⟩
  | 20 => ⟨S64x1x1, .i32⟩
  | 21 => ⟨S64x1x1, .i32⟩
  | 22 => ⟨S_, .i32⟩
  | 23 => ⟨S64x14x14, .i32⟩
  | 24 => ⟨S64x14x14, .i1⟩
  | 25 => ⟨S_, .i32⟩
  | 26 => ⟨S64x14x14, .i32⟩
  | 27 => ⟨S64x14x14, .i32⟩
  | 28 => ⟨S64x14x14, .i32⟩
  | 29 => ⟨S_, .i32⟩
  | 30 => ⟨S64x14x14, .i32⟩
  | 31 => ⟨S64x14x14, .i1⟩
  | 32 => ⟨S_, .i32⟩
  | 33 => ⟨S64x14x14, .i32⟩
  | 34 => ⟨S64x14x14, .i32⟩
  | 35 => ⟨S64x14x14, .i32⟩
  | 36 => ⟨S64x14x14, .i32⟩
  | 37 => ⟨S64x14x14x1, .i32⟩
  | 38 => ⟨S64x14x14x1, .i32⟩
  | 39 => ⟨S64x14x14x1, .i32⟩
  | 40 => ⟨S64x14x14x3, .i32⟩
  | 41 => ⟨S64x14x14x768, .f32⟩
  | 42 => ⟨S64x14x14x1, .i1⟩
  | 43 => ⟨S64x14x14x1, .f32⟩
  | 44 => ⟨S64x14x14x768, .f32⟩
  | 45 => ⟨S64x14x14x768, .f32⟩
  | 46 => ⟨S64x14x14, .f32⟩
  | 47 => ⟨S64x14x14x1, .f32⟩
  | 48 => ⟨S64x14x14x768, .f32⟩
  | 49 => ⟨S64x14x14x768, .f32⟩
  | 50 => ⟨S64x14x14, .i32⟩
  | 51 => ⟨S64x14x14, .i32⟩
  | 52 => ⟨S_, .i32⟩
  | 53 => ⟨S64x14x14, .i32⟩
  | 54 => ⟨S64x14x14, .i1⟩
  | 55 => ⟨S_, .i32⟩
  | 56 => ⟨S64x14x14, .i32⟩
  | 57 => ⟨S64x14x14, .i1⟩
  | 58 => ⟨S64x14x14, .i1⟩
  | 59 => ⟨S_, .i32⟩
  | 60 => ⟨S64x14x14, .i32⟩
  | 61 => ⟨S64x14x14, .i1⟩
  | 62 => ⟨S64x14x14, .i1⟩
  | 63 => ⟨S_, .i32⟩
  | 64 => ⟨S64x14x14, .i32⟩
  | 65 => ⟨S64x14x14, .i1⟩
  | 66 => ⟨S64x14x14, .i1⟩
  | 67 => ⟨S_, .i32⟩
  | 68 => ⟨S_, .i32⟩
  | 69 => ⟨S_, .i32⟩
  | 70 => ⟨S64x14x14, .i32⟩
  | 71 => ⟨S64x14x14, .i32⟩
  | 72 => ⟨S_, .i32⟩
  | 73 => ⟨S64x14x14, .i32⟩
  | 74 => ⟨S64x14x14, .i32⟩
  | 75 => ⟨S_, .i32⟩
  | 76 => ⟨S_, .i32⟩
  | 77 => ⟨S_, .i32⟩
  | 78 => ⟨S64x14x14, .i32⟩
  | 79 => ⟨S64x14x14, .i32⟩
  | 80 => ⟨S_, .i32⟩
  | 81 => ⟨S64x14x14, .i32⟩
  | 82 => ⟨S64x14x14, .i32⟩
  | 83 => ⟨S64, .i32⟩
  | 84 => ⟨S64x1x1, .i32⟩
  | 85 => ⟨S_, .i32⟩
  | 86 => ⟨S64x1x1, .i32⟩
  | 87 => ⟨S64x1x1, .i1⟩
  | 88 => ⟨S_, .i32⟩
  | 89 => ⟨S64x1x1, .i32⟩
  | 90 => ⟨S64x1x1, .i32⟩
  | 91 => ⟨S64x1x1, .i32⟩
  | 92 => ⟨S_, .i32⟩
  | 93 => ⟨S64x14x14, .i32⟩
  | 94 => ⟨S64x14x14, .i1⟩
  | 95 => ⟨S_, .i32⟩
  | 96 => ⟨S64x14x14, .i32⟩
  | 97 => ⟨S64x14x14, .i32⟩
  | 98 => ⟨S64x14x14, .i32⟩
  | 99 => ⟨S_, .i32⟩
  | 100 => ⟨S64x14x14, .i32⟩
  | 101 => ⟨S64x14x14, .i1⟩
  | 102 => ⟨S_, .i32⟩
  | 103 => ⟨S64x14x14, .i32⟩
  | 104 => ⟨S64x14x14, .i32⟩
  | 105 => ⟨S64x14x14, .i32⟩
  | 106 => ⟨S64x14x14, .i32⟩
  | 107 => ⟨S64x14x14x1, .i32⟩
  | 108 => ⟨S64x14x14x1, .i32⟩
  | 109 => ⟨S64x14x14x1, .i32⟩
  | 110 => ⟨S64x14x14x3, .i32⟩
  | 111 => ⟨S64x14x14x768, .f32⟩
  | 112 => ⟨S64x14x14x1, .i1⟩
  | 113 => ⟨S64x14x14x1, .f32⟩
  | 114 => ⟨S64x14x14x768, .f32⟩
  | 115 => ⟨S64x14x14x768, .f32⟩
  | 116 => ⟨S64x14x14, .f32⟩
  | 117 => ⟨S64x14x14x1, .f32⟩
  | 118 => ⟨S64x14x14x768, .f32⟩
  | 119 => ⟨S64x14x14x768, .f32⟩
  | 120 => ⟨S64x14x14x768, .f32⟩
  | 121 => ⟨S64x14x14, .i32⟩
  | 122 => ⟨S64x14x14, .i32⟩
  | 123 => ⟨S_, .i32⟩
  | 124 => ⟨S64x14x14, .i32⟩
  | 125 => ⟨S64x14x14, .i1⟩
  | 126 => ⟨S_, .i32⟩
  | 127 => ⟨S64x14x14, .i32⟩
  | _ => ⟨S64x197x768, .f32⟩

abbrev hbmTy0_2 (i : Nat) : BufTy := match i % 128 with
  | 0 => ⟨S64x14x14, .i1⟩
  | 1 => ⟨S64x14x14, .i1⟩
  | 2 => ⟨S_, .i32⟩
  | 3 => ⟨S64x14x14, .i32⟩
  | 4 => ⟨S64x14x14, .i1⟩
  | 5 => ⟨S64x14x14, .i1⟩
  | 6 => ⟨S_, .i32⟩
  | 7 => ⟨S64x14x14, .i32⟩
  | 8 => ⟨S64x14x14, .i1⟩
  | 9 => ⟨S64x14x14, .i1⟩
  | 10 => ⟨S_, .i32⟩
  | 11 => ⟨S_, .i32⟩
  | 12 => ⟨S_, .i32⟩
  | 13 => ⟨S64x14x14, .i32⟩
  | 14 => ⟨S64x14x14, .i32⟩
  | 15 => ⟨S_, .i32⟩
  | 16 => ⟨S64x14x14, .i32⟩
  | 17 => ⟨S64x14x14, .i32⟩
  | 18 => ⟨S_, .i32⟩
  | 19 => ⟨S_, .i32⟩
  | 20 => ⟨S_, .i32⟩
  | 21 => ⟨S64x14x14, .i32⟩
  | 22 => ⟨S64x14x14, .i32⟩
  | 23 => ⟨S_, .i32⟩
  | 24 => ⟨S64x14x14, .i32⟩
  | 25 => ⟨S64x14x14, .i32⟩
  | 26 => ⟨S64, .i32⟩
  | 27 => ⟨S64x1x1, .i32⟩
  | 28 => ⟨S_, .i32⟩
  | 29 => ⟨S64x1x1, .i32⟩
  | 30 => ⟨S64x1x1, .i1⟩
  | 31 => ⟨S_, .i32⟩
  | 32 => ⟨S64x1x1, .i32⟩
  | 33 => ⟨S64x1x1, .i32⟩
  | 34 => ⟨S64x1x1, .i32⟩
  | 35 => ⟨S_, .i32⟩
  | 36 => ⟨S64x14x14, .i32⟩
  | 37 => ⟨S64x14x14, .i1⟩
  | 38 => ⟨S_, .i32⟩
  | 39 => ⟨S64x14x14, .i32⟩
  | 40 => ⟨S64x14x14, .i32⟩
  | 41 => ⟨S64x14x14, .i32⟩
  | 42 => ⟨S_, .i32⟩
  | 43 => ⟨S64x14x14, .i32⟩
  | 44 => ⟨S64x14x14, .i1⟩
  | 45 => ⟨S_, .i32⟩
  | 46 => ⟨S64x14x14, .i32⟩
  | 47 => ⟨S64x14x14, .i32⟩
  | 48 => ⟨S64x14x14, .i32⟩
  | 49 => ⟨S64x14x14, .i32⟩
  | 50 => ⟨S64x14x14x1, .i32⟩
  | 51 => ⟨S64x14x14x1, .i32⟩
  | 52 => ⟨S64x14x14x1, .i32⟩
  | 53 => ⟨S64x14x14x3, .i32⟩
  | 54 => ⟨S64x14x14x768, .f32⟩
  | 55 => ⟨S64x14x14x1, .i1⟩
  | 56 => ⟨S64x14x14x1, .f32⟩
  | 57 => ⟨S64x14x14x768, .f32⟩
  | 58 => ⟨S64x14x14x768, .f32⟩
  | 59 => ⟨S64x14x14, .f32⟩
  | 60 => ⟨S64x14x14x1, .f32⟩
  | 61 => ⟨S64x14x14x768, .f32⟩
  | 62 => ⟨S64x14x14x768, .f32⟩
  | 63 => ⟨S64x14x14x768, .f32⟩
  | 64 => ⟨S64x14x14, .i32⟩
  | 65 => ⟨S64x14x14, .i32⟩
  | 66 => ⟨S_, .i32⟩
  | 67 => ⟨S64x14x14, .i32⟩
  | 68 => ⟨S64x14x14, .i1⟩
  | 69 => ⟨S_, .i32⟩
  | 70 => ⟨S64x14x14, .i32⟩
  | 71 => ⟨S64x14x14, .i1⟩
  | 72 => ⟨S64x14x14, .i1⟩
  | 73 => ⟨S_, .i32⟩
  | 74 => ⟨S64x14x14, .i32⟩
  | 75 => ⟨S64x14x14, .i1⟩
  | 76 => ⟨S64x14x14, .i1⟩
  | 77 => ⟨S_, .i32⟩
  | 78 => ⟨S64x14x14, .i32⟩
  | 79 => ⟨S64x14x14, .i1⟩
  | 80 => ⟨S64x14x14, .i1⟩
  | 81 => ⟨S_, .i32⟩
  | 82 => ⟨S_, .i32⟩
  | 83 => ⟨S_, .i32⟩
  | 84 => ⟨S64x14x14, .i32⟩
  | 85 => ⟨S64x14x14, .i32⟩
  | 86 => ⟨S_, .i32⟩
  | 87 => ⟨S64x14x14, .i32⟩
  | 88 => ⟨S64x14x14, .i32⟩
  | 89 => ⟨S_, .i32⟩
  | 90 => ⟨S_, .i32⟩
  | 91 => ⟨S_, .i32⟩
  | 92 => ⟨S64x14x14, .i32⟩
  | 93 => ⟨S64x14x14, .i32⟩
  | 94 => ⟨S_, .i32⟩
  | 95 => ⟨S64x14x14, .i32⟩
  | 96 => ⟨S64x14x14, .i32⟩
  | 97 => ⟨S64, .i32⟩
  | 98 => ⟨S64x1x1, .i32⟩
  | 99 => ⟨S_, .i32⟩
  | 100 => ⟨S64x1x1, .i32⟩
  | 101 => ⟨S64x1x1, .i1⟩
  | 102 => ⟨S_, .i32⟩
  | 103 => ⟨S64x1x1, .i32⟩
  | 104 => ⟨S64x1x1, .i32⟩
  | 105 => ⟨S64x1x1, .i32⟩
  | 106 => ⟨S_, .i32⟩
  | 107 => ⟨S64x14x14, .i32⟩
  | 108 => ⟨S64x14x14, .i1⟩
  | 109 => ⟨S_, .i32⟩
  | 110 => ⟨S64x14x14, .i32⟩
  | 111 => ⟨S64x14x14, .i32⟩
  | 112 => ⟨S64x14x14, .i32⟩
  | 113 => ⟨S_, .i32⟩
  | 114 => ⟨S64x14x14, .i32⟩
  | 115 => ⟨S64x14x14, .i1⟩
  | 116 => ⟨S_, .i32⟩
  | 117 => ⟨S64x14x14, .i32⟩
  | 118 => ⟨S64x14x14, .i32⟩
  | 119 => ⟨S64x14x14, .i32⟩
  | 120 => ⟨S64x14x14, .i32⟩
  | 121 => ⟨S64x14x14x1, .i32⟩
  | 122 => ⟨S64x14x14x1, .i32⟩
  | 123 => ⟨S64x14x14x1, .i32⟩
  | 124 => ⟨S64x14x14x3, .i32⟩
  | 125 => ⟨S64x14x14x768, .f32⟩
  | 126 => ⟨S64x14x14x1, .i1⟩
  | 127 => ⟨S64x14x14x1, .f32⟩
  | _ => ⟨S64x197x768, .f32⟩

abbrev hbmTy0_3 (i : Nat) : BufTy := match i % 128 with
  | 0 => ⟨S64x14x14x768, .f32⟩
  | 1 => ⟨S64x14x14x768, .f32⟩
  | 2 => ⟨S64x14x14, .f32⟩
  | 3 => ⟨S64x14x14x1, .f32⟩
  | 4 => ⟨S64x14x14x768, .f32⟩
  | 5 => ⟨S64x14x14x768, .f32⟩
  | 6 => ⟨S64x14x14x768, .f32⟩
  | 7 => ⟨S64x768x14x14, .f32⟩
  | 8 => ⟨S64x14x14x1, .f32⟩
  | 9 => ⟨S64x14x14, .f32⟩
  | 10 => ⟨S64x14x14x1, .f32⟩
  | 11 => ⟨S64x14x14, .f32⟩
  | 12 => ⟨S_, .f32⟩
  | 13 => ⟨S64x14x14, .f32⟩
  | 14 => ⟨S64x14x14, .f32⟩
  | 15 => ⟨S_, .f32⟩
  | 16 => ⟨S64x14x14, .f32⟩
  | 17 => ⟨S64x14x14, .f32⟩
  | 18 => ⟨S_, .f32⟩
  | 19 => ⟨S64x14x14, .f32⟩
  | 20 => ⟨S64x14x14, .f32⟩
  | 21 => ⟨S_, .f32⟩
  | 22 => ⟨S64x14x14, .f32⟩
  | 23 => ⟨S64x14x14, .f32⟩
  | 24 => ⟨S_, .f32⟩
  | 25 => ⟨S64x14x14, .f32⟩
  | 26 => ⟨S64x14x14, .f32⟩
  | 27 => ⟨S_, .f32⟩
  | 28 => ⟨S64x14x14, .f32⟩
  | 29 => ⟨S64x14x14, .f32⟩
  | 30 => ⟨S_, .f32⟩
  | 31 => ⟨S64x14x14, .f32⟩
  | 32 => ⟨S64x14x14, .f32⟩
  | 33 => ⟨S_, .f32⟩
  | 34 => ⟨S64x14x14, .f32⟩
  | 35 => ⟨S64x14x14, .f32⟩
  | 36 => ⟨S64x14x14, .f32⟩
  | 37 => ⟨S64x14x14, .f32⟩
  | 38 => ⟨S_, .f32⟩
  | 39 => ⟨S64x14x14, .f32⟩
  | 40 => ⟨S64x14x14, .f32⟩
  | 41 => ⟨S_, .f32⟩
  | 42 => ⟨S64x14x14, .f32⟩
  | 43 => ⟨S64x14x14, .f32⟩
  | 44 => ⟨S64x14x14, .f32⟩
  | 45 => ⟨S_, .f32⟩
  | 46 => ⟨S64x14x14, .f32⟩
  | 47 => ⟨S64x14x14, .f32⟩
  | 48 => ⟨S64x14x14, .f32⟩
  | 49 => ⟨S_, .f32⟩
  | 50 => ⟨S64x14x14, .f32⟩
  | 51 => ⟨S64x14x14, .f32⟩
  | 52 => ⟨S64x14x14, .i32⟩
  | 53 => ⟨S64x14x14, .i32⟩
  | 54 => ⟨S_, .i32⟩
  | 55 => ⟨S64x14x14, .i32⟩
  | 56 => ⟨S64x14x14, .i1⟩
  | 57 => ⟨S_, .i32⟩
  | 58 => ⟨S64x14x14, .i32⟩
  | 59 => ⟨S64x14x14, .i1⟩
  | 60 => ⟨S64x14x14, .i1⟩
  | 61 => ⟨S_, .i32⟩
  | 62 => ⟨S64x14x14, .i32⟩
  | 63 => ⟨S64x14x14, .i1⟩
  | 64 => ⟨S64x14x14, .i1⟩
  | 65 => ⟨S_, .i32⟩
  | 66 => ⟨S64x14x14, .i32⟩
  | 67 => ⟨S64x14x14, .i1⟩
  | 68 => ⟨S64x14x14, .i1⟩
  | 69 => ⟨S_, .i32⟩
  | 70 => ⟨S_, .i32⟩
  | 71 => ⟨S_, .i32⟩
  | 72 => ⟨S64x14x14, .i32⟩
  | 73 => ⟨S64x14x14, .i32⟩
  | 74 => ⟨S_, .i32⟩
  | 75 => ⟨S64x14x14, .i32⟩
  | 76 => ⟨S64x14x14, .i32⟩
  | 77 => ⟨S_, .i32⟩
  | 78 => ⟨S_, .i32⟩
  | 79 => ⟨S_, .i32⟩
  | 80 => ⟨S64x14x14, .i32⟩
  | 81 => ⟨S64x14x14, .i32⟩
  | 82 => ⟨S_, .i32⟩
  | 83 => ⟨S64x14x14, .i32⟩
  | 84 => ⟨S64x14x14, .i32⟩
  | 85 => ⟨S64, .i32⟩
  | 86 => ⟨S64x1x1, .i32⟩
  | 87 => ⟨S_, .i32⟩
  | 88 => ⟨S64x1x1, .i32⟩
  | 89 => ⟨S64x1x1, .i1⟩
  | 90 => ⟨S_, .i32⟩
  | 91 => ⟨S64x1x1, .i32⟩
  | 92 => ⟨S64x1x1, .i32⟩
  | 93 => ⟨S64x1x1, .i32⟩
  | 94 => ⟨S_, .i32⟩
  | 95 => ⟨S64x14x14, .i32⟩
  | 96 => ⟨S64x14x14, .i1⟩
  | 97 => ⟨S_, .i32⟩
  | 98 => ⟨S64x14x14, .i32⟩
  | 99 => ⟨S64x14x14, .i32⟩
  | 100 => ⟨S64x14x14, .i32⟩
  | 101 => ⟨S_, .i32⟩
  | 102 => ⟨S64x14x14, .i32⟩
  | 103 => ⟨S64x14x14, .i1⟩
  | 104 => ⟨S_, .i32⟩
  | 105 => ⟨S64x14x14, .i32⟩
  | 106 => ⟨S64x14x14, .i32⟩
  | 107 => ⟨S64x14x14, .i32⟩
  | 108 => ⟨S64x14x14, .i32⟩
  | 109 => ⟨S64x14x14x1, .i32⟩
  | 110 => ⟨S64x14x14x1, .i32⟩
  | 111 => ⟨S64x14x14x1, .i32⟩
  | 112 => ⟨S64x14x14x3, .i32⟩
  | 113 => ⟨S64x14x14x768, .f32⟩
  | 114 => ⟨S64x14x14x1, .i1⟩
  | 115 => ⟨S64x14x14x1, .f32⟩
  | 116 => ⟨S64x14x14x768, .f32⟩
  | 117 => ⟨S64x14x14x768, .f32⟩
  | 118 => ⟨S64x14x14, .f32⟩
  | 119 => ⟨S64x14x14x1, .f32⟩
  | 120 => ⟨S64x14x14x768, .f32⟩
  | 121 => ⟨S64x14x14x768, .f32⟩
  | 122 => ⟨S64x14x14, .i32⟩
  | 123 => ⟨S64x14x14, .i32⟩
  | 124 => ⟨S_, .i32⟩
  | 125 => ⟨S64x14x14, .i32⟩
  | 126 => ⟨S64x14x14, .i1⟩
  | 127 => ⟨S_, .i32⟩
  | _ => ⟨S64x197x768, .f32⟩

abbrev hbmTy0_4 (i : Nat) : BufTy := match i % 128 with
  | 0 => ⟨S64x14x14, .i32⟩
  | 1 => ⟨S64x14x14, .i1⟩
  | 2 => ⟨S64x14x14, .i1⟩
  | 3 => ⟨S_, .i32⟩
  | 4 => ⟨S64x14x14, .i32⟩
  | 5 => ⟨S64x14x14, .i1⟩
  | 6 => ⟨S64x14x14, .i1⟩
  | 7 => ⟨S_, .i32⟩
  | 8 => ⟨S64x14x14, .i32⟩
  | 9 => ⟨S64x14x14, .i1⟩
  | 10 => ⟨S64x14x14, .i1⟩
  | 11 => ⟨S_, .i32⟩
  | 12 => ⟨S_, .i32⟩
  | 13 => ⟨S_, .i32⟩
  | 14 => ⟨S64x14x14, .i32⟩
  | 15 => ⟨S64x14x14, .i32⟩
  | 16 => ⟨S_, .i32⟩
  | 17 => ⟨S64x14x14, .i32⟩
  | 18 => ⟨S64x14x14, .i32⟩
  | 19 => ⟨S_, .i32⟩
  | 20 => ⟨S_, .i32⟩
  | 21 => ⟨S_, .i32⟩
  | 22 => ⟨S64x14x14, .i32⟩
  | 23 => ⟨S64x14x14, .i32⟩
  | 24 => ⟨S_, .i32⟩
  | 25 => ⟨S64x14x14, .i32⟩
  | 26 => ⟨S64x14x14, .i32⟩
  | 27 => ⟨S64, .i32⟩
  | 28 => ⟨S64x1x1, .i32⟩
  | 29 => ⟨S_, .i32⟩
  | 30 => ⟨S64x1x1, .i32⟩
  | 31 => ⟨S64x1x1, .i1⟩
  | 32 => ⟨S_, .i32⟩
  | 33 => ⟨S64x1x1, .i32⟩
  | 34 => ⟨S64x1x1, .i32⟩
  | 35 => ⟨S64x1x1, .i32⟩
  | 36 => ⟨S_, .i32⟩
  | 37 => ⟨S64x14x14, .i32⟩
  | 38 => ⟨S64x14x14, .i1⟩
  | 39 => ⟨S_, .i32⟩
  | 40 => ⟨S64x14x14, .i32⟩
  | 41 => ⟨S64x14x14, .i32⟩
  | 42 => ⟨S64x14x14, .i32⟩
  | 43 => ⟨S_, .i32⟩
  | 44 => ⟨S64x14x14, .i32⟩
  | 45 => ⟨S64x14x14, .i1⟩
  | 46 => ⟨S_, .i32⟩
  | 47 => ⟨S64x14x14, .i32⟩
  | 48 => ⟨S64x14x14, .i32⟩
  | 49 => ⟨S64x14x14, .i32⟩
  | 50 => ⟨S64x14x14, .i32⟩
  | 51 => ⟨S64x14x14x1, .i32⟩
  | 52 => ⟨S64x14x14x1, .i32⟩
  | 53 => ⟨S64x14x14x1, .i32⟩
  | 54 => ⟨S64x14x14x3, .i32⟩
  | 55 => ⟨S64x14x14x768, .f32⟩
  | 56 => ⟨S64x14x14x1, .i1⟩
  | 57 => ⟨S64x14x14x1, .f32⟩
  | 58 => ⟨S64x14x14x768, .f32⟩
  | 59 => ⟨S64x14x14x768, .f32⟩
  | 60 => ⟨S64x14x14, .f32⟩
  | 61 => ⟨S64x14x14x1, .f32⟩
  | 62 => ⟨S64x14x14x768, .f32⟩
  | 63 => ⟨S64x14x14x768, .f32⟩
  | 64 => ⟨S64x14x14x768, .f32⟩
  | 65 => ⟨S64x14x14, .i32⟩
  | 66 => ⟨S64x14x14, .i32⟩
  | 67 => ⟨S_, .i32⟩
  | 68 => ⟨S64x14x14, .i32⟩
  | 69 => ⟨S64x14x14, .i1⟩
  | 70 => ⟨S_, .i32⟩
  | 71 => ⟨S64x14x14, .i32⟩
  | 72 => ⟨S64x14x14, .i1⟩
  | 73 => ⟨S64x14x14, .i1⟩
  | 74 => ⟨S_, .i32⟩
  | 75 => ⟨S64x14x14, .i32⟩
  | 76 => ⟨S64x14x14, .i1⟩
  | 77 => ⟨S64x14x14, .i1⟩
  | 78 => ⟨S_, .i32⟩
  | 79 => ⟨S64x14x14, .i32⟩
  | 80 => ⟨S64x14x14, .i1⟩
  | 81 => ⟨S64x14x14, .i1⟩
  | 82 => ⟨S_, .i32⟩
  | 83 => ⟨S_, .i32⟩
  | 84 => ⟨S_, .i32⟩
  | 85 => ⟨S64x14x14, .i32⟩
  | 86 => ⟨S64x14x14, .i32⟩
  | 87 => ⟨S_, .i32⟩
  | 88 => ⟨S64x14x14, .i32⟩
  | 89 => ⟨S64x14x14, .i32⟩
  | 90 => ⟨S_, .i32⟩
  | 91 => ⟨S_, .i32⟩
  | 92 => ⟨S_, .i32⟩
  | 93 => ⟨S64x14x14, .i32⟩
  | 94 => ⟨S64x14x14, .i32⟩
  | 95 => ⟨S_, .i32⟩
  | 96 => ⟨S64x14x14, .i32⟩
  | 97 => ⟨S64x14x14, .i32⟩
  | 98 => ⟨S64, .i32⟩
  | 99 => ⟨S64x1x1, .i32⟩
  | 100 => ⟨S_, .i32⟩
  | 101 => ⟨S64x1x1, .i32⟩
  | 102 => ⟨S64x1x1, .i1⟩
  | 103 => ⟨S_, .i32⟩
  | 104 => ⟨S64x1x1, .i32⟩
  | 105 => ⟨S64x1x1, .i32⟩
  | 106 => ⟨S64x1x1, .i32⟩
  | 107 => ⟨S_, .i32⟩
  | 108 => ⟨S64x14x14, .i32⟩
  | 109 => ⟨S64x14x14, .i1⟩
  | 110 => ⟨S_, .i32⟩
  | 111 => ⟨S64x14x14, .i32⟩
  | 112 => ⟨S64x14x14, .i32⟩
  | 113 => ⟨S64x14x14, .i32⟩
  | 114 => ⟨S_, .i32⟩
  | 115 => ⟨S64x14x14, .i32⟩
  | 116 => ⟨S64x14x14, .i1⟩
  | 117 => ⟨S_, .i32⟩
  | 118 => ⟨S64x14x14, .i32⟩
  | 119 => ⟨S64x14x14, .i32⟩
  | 120 => ⟨S64x14x14, .i32⟩
  | 121 => ⟨S64x14x14, .i32⟩
  | 122 => ⟨S64x14x14x1, .i32⟩
  | 123 => ⟨S64x14x14x1, .i32⟩
  | 124 => ⟨S64x14x14x1, .i32⟩
  | 125 => ⟨S64x14x14x3, .i32⟩
  | 126 => ⟨S64x14x14x768, .f32⟩
  | 127 => ⟨S64x14x14x1, .i1⟩
  | _ => ⟨S64x197x768, .f32⟩

abbrev hbmTy0_5 (i : Nat) : BufTy := match i % 128 with
  | 0 => ⟨S64x14x14x1, .f32⟩
  | 1 => ⟨S64x14x14x768, .f32⟩
  | 2 => ⟨S64x14x14x768, .f32⟩
  | 3 => ⟨S64x14x14, .f32⟩
  | 4 => ⟨S64x14x14x1, .f32⟩
  | 5 => ⟨S64x14x14x768, .f32⟩
  | 6 => ⟨S64x14x14x768, .f32⟩
  | 7 => ⟨S64x14x14x768, .f32⟩
  | 8 => ⟨S64x14x14, .i32⟩
  | 9 => ⟨S64x14x14, .i32⟩
  | 10 => ⟨S_, .i32⟩
  | 11 => ⟨S64x14x14, .i32⟩
  | 12 => ⟨S64x14x14, .i1⟩
  | 13 => ⟨S_, .i32⟩
  | 14 => ⟨S64x14x14, .i32⟩
  | 15 => ⟨S64x14x14, .i1⟩
  | 16 => ⟨S64x14x14, .i1⟩
  | 17 => ⟨S_, .i32⟩
  | 18 => ⟨S64x14x14, .i32⟩
  | 19 => ⟨S64x14x14, .i1⟩
  | 20 => ⟨S64x14x14, .i1⟩
  | 21 => ⟨S_, .i32⟩
  | 22 => ⟨S64x14x14, .i32⟩
  | 23 => ⟨S64x14x14, .i1⟩
  | 24 => ⟨S64x14x14, .i1⟩
  | 25 => ⟨S_, .i32⟩
  | 26 => ⟨S_, .i32⟩
  | 27 => ⟨S_, .i32⟩
  | 28 => ⟨S64x14x14, .i32⟩
  | 29 => ⟨S64x14x14, .i32⟩
  | 30 => ⟨S_, .i32⟩
  | 31 => ⟨S64x14x14, .i32⟩
  | 32 => ⟨S64x14x14, .i32⟩
  | 33 => ⟨S_, .i32⟩
  | 34 => ⟨S_, .i32⟩
  | 35 => ⟨S_, .i32⟩
  | 36 => ⟨S64x14x14, .i32⟩
  | 37 => ⟨S64x14x14, .i32⟩
  | 38 => ⟨S_, .i32⟩
  | 39 => ⟨S64x14x14, .i32⟩
  | 40 => ⟨S64x14x14, .i32⟩
  | 41 => ⟨S64, .i32⟩
  | 42 => ⟨S64x1x1, .i32⟩
  | 43 => ⟨S_, .i32⟩
  | 44 => ⟨S64x1x1, .i32⟩
  | 45 => ⟨S64x1x1, .i1⟩
  | 46 => ⟨S_, .i32⟩
  | 47 => ⟨S64x1x1, .i32⟩
  | 48 => ⟨S64x1x1, .i32⟩
  | 49 => ⟨S64x1x1, .i32⟩
  | 50 => ⟨S_, .i32⟩
  | 51 => ⟨S64x14x14, .i32⟩
  | 52 => ⟨S64x14x14, .i1⟩
  | 53 => ⟨S_, .i32⟩
  | 54 => ⟨S64x14x14, .i32⟩
  | 55 => ⟨S64x14x14, .i32⟩
  | 56 => ⟨S64x14x14, .i32⟩
  | 57 => ⟨S_, .i32⟩
  | 58 => ⟨S64x14x14, .i32⟩
  | 59 => ⟨S64x14x14, .i1⟩
  | 60 => ⟨S_, .i32⟩
  | 61 => ⟨S64x14x14, .i32⟩
  | 62 => ⟨S64x14x14, .i32⟩
  | 63 => ⟨S64x14x14, .i32⟩
  | 64 => ⟨S64x14x14, .i32⟩
  | 65 => ⟨S64x14x14x1, .i32⟩
  | 66 => ⟨S64x14x14x1, .i32⟩
  | 67 => ⟨S64x14x14x1, .i32⟩
  | 68 => ⟨S64x14x14x3, .i32⟩
  | 69 => ⟨S64x14x14x768, .f32⟩
  | 70 => ⟨S64x14x14x1, .i1⟩
  | 71 => ⟨S64x14x14x1, .f32⟩
  | 72 => ⟨S64x14x14x768, .f32⟩
  | 73 => ⟨S64x14x14x768, .f32⟩
  | 74 => ⟨S64x14x14, .f32⟩
  | 75 => ⟨S64x14x14x1, .f32⟩
  | 76 => ⟨S64x14x14x768, .f32⟩
  | 77 => ⟨S64x14x14x768, .f32⟩
  | 78 => ⟨S64x14x14x768, .f32⟩
  | 79 => ⟨S64x768x14x14, .f32⟩
  | 80 => ⟨S64x768x196, .f32⟩
  | 81 => ⟨S64x196x768, .f32⟩
  | 82 => ⟨S64x768x196, .f32⟩
  | 83 => ⟨S64x196x768, .f32⟩
  | 84 => ⟨S_, .f32⟩
  | 85 => ⟨S64x1x768, .f32⟩
  | 86 => ⟨S64x197x768, .f32⟩
  | 87 => ⟨S64x197x768, .f32⟩
  | 88 => ⟨S64x197x768, .f32⟩
  | 89 => ⟨S_, .f32⟩
  | 90 => ⟨S64x197, .f32⟩
  | 91 => ⟨S_, .f32⟩
  | 92 => ⟨S64x197, .f32⟩
  | 93 => ⟨S64x197, .f32⟩
  | 94 => ⟨S64x197, .f32⟩
  | 95 => ⟨S64x197, .f32⟩
  | 96 => ⟨S_, .f32⟩
  | 97 => ⟨S64x197, .f32⟩
  | 98 => ⟨S64x197, .f32⟩
  | 99 => ⟨S_, .f32⟩
  | 100 => ⟨S64x197, .f32⟩
  | 101 => ⟨S64x197, .f32⟩
  | 102 => ⟨S64x197x1, .f32⟩
  | 103 => ⟨S64x197x768, .f32⟩
  | 104 => ⟨S64x197x768, .f32⟩
  | _ => ⟨S64x197x768, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S64x197x768, .f32⟩

abbrev bufTy : (tb : Table) → Fin (tcTables nBuf tb) → BufTy
  | .hbm, ⟨i, _⟩ => hbmTy i
  | _, _ => ⟨S64x197x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst : Ref sig .tc := ⟨.hbm, 54, rfl⟩
abbrev main_v36 : Ref sig .tc := ⟨.hbm, 55, rfl⟩
abbrev main_v37 : Ref sig .tc := ⟨.hbm, 56, rfl⟩
abbrev main_cst_0 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_cst_1 : Ref sig .tc := ⟨.hbm, 68, rfl⟩
abbrev main_v48 : Ref sig .tc := ⟨.hbm, 69, rfl⟩
abbrev main_v49 : Ref sig .tc := ⟨.hbm, 70, rfl⟩
abbrev main_cst_2 : Ref sig .tc := ⟨.hbm, 71, rfl⟩
abbrev main_v50 : Ref sig .tc := ⟨.hbm, 72, rfl⟩
abbrev main_v51 : Ref sig .tc := ⟨.hbm, 73, rfl⟩
abbrev main_cst_3 : Ref sig .tc := ⟨.hbm, 74, rfl⟩
abbrev main_v52 : Ref sig .tc := ⟨.hbm, 75, rfl⟩
abbrev main_v53 : Ref sig .tc := ⟨.hbm, 76, rfl⟩
abbrev main_cst_4 : Ref sig .tc := ⟨.hbm, 77, rfl⟩
abbrev main_v54 : Ref sig .tc := ⟨.hbm, 78, rfl⟩
abbrev main_v55 : Ref sig .tc := ⟨.hbm, 79, rfl⟩
abbrev main_cst_5 : Ref sig .tc := ⟨.hbm, 80, rfl⟩
abbrev main_v56 : Ref sig .tc := ⟨.hbm, 81, rfl⟩
abbrev main_v57 : Ref sig .tc := ⟨.hbm, 82, rfl⟩
abbrev main_cst_6 : Ref sig .tc := ⟨.hbm, 83, rfl⟩
abbrev main_v58 : Ref sig .tc := ⟨.hbm, 84, rfl⟩
abbrev main_v59 : Ref sig .tc := ⟨.hbm, 85, rfl⟩
abbrev main_cst_7 : Ref sig .tc := ⟨.hbm, 86, rfl⟩
abbrev main_v60 : Ref sig .tc := ⟨.hbm, 87, rfl⟩
abbrev main_v61 : Ref sig .tc := ⟨.hbm, 88, rfl⟩
abbrev main_cst_8 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_cst_9 : Ref sig .tc := ⟨.hbm, 94, rfl⟩
abbrev main_v66 : Ref sig .tc := ⟨.hbm, 95, rfl⟩
abbrev main_v67 : Ref sig .tc := ⟨.hbm, 96, rfl⟩
abbrev main_cst_10 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_11 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_12 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_c : Ref sig .tc := ⟨.hbm, 110, rfl⟩
abbrev main_v78 : Ref sig .tc := ⟨.hbm, 111, rfl⟩
abbrev main_v79 : Ref sig .tc := ⟨.hbm, 112, rfl⟩
abbrev main_c_13 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_c_14 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_c_15 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_16 : Ref sig .tc := ⟨.hbm, 125, rfl⟩
abbrev main_c_17 : Ref sig .tc := ⟨.hbm, 126, rfl⟩
abbrev main_call2_v0 : Ref sig .tc := ⟨.hbm, 127, rfl⟩
abbrev main_call2_v1 : Ref sig .tc := ⟨.hbm, 128, rfl⟩
abbrev main_call2_v2 : Ref sig .tc := ⟨.hbm, 129, rfl⟩
abbrev main_call2_v3 : Ref sig .tc := ⟨.hbm, 130, rfl⟩
abbrev main_call2_v4 : Ref sig .tc := ⟨.hbm, 131, rfl⟩
abbrev main_v89 : Ref sig .tc := ⟨.hbm, 132, rfl⟩
abbrev main_c_18 : Ref sig .tc := ⟨.hbm, 133, rfl⟩
abbrev main_c_19 : Ref sig .tc := ⟨.hbm, 134, rfl⟩
abbrev main_call3_v0 : Ref sig .tc := ⟨.hbm, 135, rfl⟩
abbrev main_call3_v1 : Ref sig .tc := ⟨.hbm, 136, rfl⟩
abbrev main_call3_v2 : Ref sig .tc := ⟨.hbm, 137, rfl⟩
abbrev main_call3_v3 : Ref sig .tc := ⟨.hbm, 138, rfl⟩
abbrev main_call3_v4 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_c_20 : Ref sig .tc := ⟨.hbm, 143, rfl⟩
abbrev main_v93 : Ref sig .tc := ⟨.hbm, 144, rfl⟩
abbrev main_v94 : Ref sig .tc := ⟨.hbm, 145, rfl⟩
abbrev main_c_21 : Ref sig .tc := ⟨.hbm, 146, rfl⟩
abbrev main_v95 : Ref sig .tc := ⟨.hbm, 147, rfl⟩
abbrev main_v96 : Ref sig .tc := ⟨.hbm, 148, rfl⟩
abbrev main_v97 : Ref sig .tc := ⟨.hbm, 149, rfl⟩
abbrev main_c_22 : Ref sig .tc := ⟨.hbm, 150, rfl⟩
abbrev main_v98 : Ref sig .tc := ⟨.hbm, 151, rfl⟩
abbrev main_v99 : Ref sig .tc := ⟨.hbm, 152, rfl⟩
abbrev main_c_23 : Ref sig .tc := ⟨.hbm, 153, rfl⟩
abbrev main_v100 : Ref sig .tc := ⟨.hbm, 154, rfl⟩
abbrev main_v101 : Ref sig .tc := ⟨.hbm, 155, rfl⟩
abbrev main_v102 : Ref sig .tc := ⟨.hbm, 156, rfl⟩
abbrev main_c_24 : Ref sig .tc := ⟨.hbm, 157, rfl⟩
abbrev main_v103 : Ref sig .tc := ⟨.hbm, 158, rfl⟩
abbrev main_v104 : Ref sig .tc := ⟨.hbm, 159, rfl⟩
abbrev main_c_25 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_v115 : Ref sig .tc := ⟨.hbm, 171, rfl⟩
abbrev main_v116 : Ref sig .tc := ⟨.hbm, 172, rfl⟩
abbrev main_v117 : Ref sig .tc := ⟨.hbm, 173, rfl⟩
abbrev main_v118 : Ref sig .tc := ⟨.hbm, 174, rfl⟩
abbrev main_v119 : Ref sig .tc := ⟨.hbm, 175, rfl⟩
abbrev main_v120 : Ref sig .tc := ⟨.hbm, 176, rfl⟩
abbrev main_v121 : Ref sig .tc := ⟨.hbm, 177, rfl⟩
abbrev main_v122 : Ref sig .tc := ⟨.hbm, 178, rfl⟩
abbrev main_v123 : Ref sig .tc := ⟨.hbm, 179, rfl⟩
abbrev main_c_26 : Ref sig .tc := ⟨.hbm, 180, rfl⟩
abbrev main_v124 : Ref sig .tc := ⟨.hbm, 181, rfl⟩
abbrev main_v125 : Ref sig .tc := ⟨.hbm, 182, rfl⟩
abbrev main_c_27 : Ref sig .tc := ⟨.hbm, 183, rfl⟩
abbrev main_v126 : Ref sig .tc := ⟨.hbm, 184, rfl⟩
abbrev main_v127 : Ref sig .tc := ⟨.hbm, 185, rfl⟩
abbrev main_v128 : Ref sig .tc := ⟨.hbm, 186, rfl⟩
abbrev main_c_28 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_c_29 : Ref sig .tc := ⟨.hbm, 191, rfl⟩
abbrev main_v132 : Ref sig .tc := ⟨.hbm, 192, rfl⟩
abbrev main_v133 : Ref sig .tc := ⟨.hbm, 193, rfl⟩
abbrev main_v134 : Ref sig .tc := ⟨.hbm, 194, rfl⟩
abbrev main_c_30 : Ref sig .tc := ⟨.hbm, 195, rfl⟩
abbrev main_c_31 : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_call4_v3 : Ref sig .tc := ⟨.hbm, 200, rfl⟩
abbrev main_call4_v4 : Ref sig .tc := ⟨.hbm, 201, rfl⟩
abbrev main_v135 : Ref sig .tc := ⟨.hbm, 202, rfl⟩
abbrev main_c_32 : Ref sig .tc := ⟨.hbm, 203, rfl⟩
abbrev main_c_33 : Ref sig .tc := ⟨.hbm, 204, rfl⟩
abbrev main_call5_v0 : Ref sig .tc := ⟨.hbm, 205, rfl⟩
abbrev main_call5_v1 : Ref sig .tc := ⟨.hbm, 206, rfl⟩
abbrev main_call5_v2 : Ref sig .tc := ⟨.hbm, 207, rfl⟩
abbrev main_call5_v3 : Ref sig .tc := ⟨.hbm, 208, rfl⟩
abbrev main_call5_v4 : Ref sig .tc := ⟨.hbm, 209, rfl⟩
abbrev main_v136 : Ref sig .tc := ⟨.hbm, 210, rfl⟩
abbrev main_v137 : Ref sig .tc := ⟨.hbm, 211, rfl⟩
abbrev main_v138 : Ref sig .tc := ⟨.hbm, 212, rfl⟩
abbrev main_c_34 : Ref sig .tc := ⟨.hbm, 213, rfl⟩
abbrev main_v139 : Ref sig .tc := ⟨.hbm, 214, rfl⟩
abbrev main_v140 : Ref sig .tc := ⟨.hbm, 215, rfl⟩
abbrev main_c_35 : Ref sig .tc := ⟨.hbm, 216, rfl⟩
abbrev main_v141 : Ref sig .tc := ⟨.hbm, 217, rfl⟩
abbrev main_v142 : Ref sig .tc := ⟨.hbm, 218, rfl⟩
abbrev main_v143 : Ref sig .tc := ⟨.hbm, 219, rfl⟩
abbrev main_c_36 : Ref sig .tc := ⟨.hbm, 220, rfl⟩
abbrev main_v144 : Ref sig .tc := ⟨.hbm, 221, rfl⟩
abbrev main_v145 : Ref sig .tc := ⟨.hbm, 222, rfl⟩
abbrev main_c_37 : Ref sig .tc := ⟨.hbm, 223, rfl⟩
abbrev main_v146 : Ref sig .tc := ⟨.hbm, 224, rfl⟩
abbrev main_v147 : Ref sig .tc := ⟨.hbm, 225, rfl⟩
abbrev main_v148 : Ref sig .tc := ⟨.hbm, 226, rfl⟩
abbrev main_c_38 : Ref sig .tc := ⟨.hbm, 227, rfl⟩
abbrev main_v149 : Ref sig .tc := ⟨.hbm, 228, rfl⟩
abbrev main_v150 : Ref sig .tc := ⟨.hbm, 229, rfl⟩
abbrev main_c_39 : Ref sig .tc := ⟨.hbm, 230, rfl⟩
abbrev main_v151 : Ref sig .tc := ⟨.hbm, 231, rfl⟩
abbrev main_v152 : Ref sig .tc := ⟨.hbm, 232, rfl⟩
abbrev main_v153 : Ref sig .tc := ⟨.hbm, 233, rfl⟩
abbrev main_v154 : Ref sig .tc := ⟨.hbm, 234, rfl⟩
abbrev main_v155 : Ref sig .tc := ⟨.hbm, 235, rfl⟩
abbrev main_v156 : Ref sig .tc := ⟨.hbm, 236, rfl⟩
abbrev main_v157 : Ref sig .tc := ⟨.hbm, 237, rfl⟩
abbrev main_v158 : Ref sig .tc := ⟨.hbm, 238, rfl⟩
abbrev main_v159 : Ref sig .tc := ⟨.hbm, 239, rfl⟩
abbrev main_v160 : Ref sig .tc := ⟨.hbm, 240, rfl⟩
abbrev main_v161 : Ref sig .tc := ⟨.hbm, 241, rfl⟩
abbrev main_v162 : Ref sig .tc := ⟨.hbm, 242, rfl⟩
abbrev main_v163 : Ref sig .tc := ⟨.hbm, 243, rfl⟩
abbrev main_v164 : Ref sig .tc := ⟨.hbm, 244, rfl⟩
abbrev main_v165 : Ref sig .tc := ⟨.hbm, 245, rfl⟩
abbrev main_v166 : Ref sig .tc := ⟨.hbm, 246, rfl⟩
abbrev main_v167 : Ref sig .tc := ⟨.hbm, 247, rfl⟩
abbrev main_v168 : Ref sig .tc := ⟨.hbm, 248, rfl⟩
abbrev main_v169 : Ref sig .tc := ⟨.hbm, 249, rfl⟩
abbrev main_v170 : Ref sig .tc := ⟨.hbm, 250, rfl⟩
abbrev main_c_40 : Ref sig .tc := ⟨.hbm, 251, rfl⟩
abbrev main_v171 : Ref sig .tc := ⟨.hbm, 252, rfl⟩
abbrev main_v172 : Ref sig .tc := ⟨.hbm, 253, rfl⟩
abbrev main_c_41 : Ref sig .tc := ⟨.hbm, 254, rfl⟩
abbrev main_v173 : Ref sig .tc := ⟨.hbm, 255, rfl⟩
abbrev main_v174 : Ref sig .tc := ⟨.hbm, 256, rfl⟩
abbrev main_v175 : Ref sig .tc := ⟨.hbm, 257, rfl⟩
abbrev main_c_42 : Ref sig .tc := ⟨.hbm, 258, rfl⟩
abbrev main_v176 : Ref sig .tc := ⟨.hbm, 259, rfl⟩
abbrev main_v177 : Ref sig .tc := ⟨.hbm, 260, rfl⟩
abbrev main_v178 : Ref sig .tc := ⟨.hbm, 261, rfl⟩
abbrev main_c_43 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_c_44 : Ref sig .tc := ⟨.hbm, 266, rfl⟩
abbrev main_c_45 : Ref sig .tc := ⟨.hbm, 267, rfl⟩
abbrev main_call6_v0 : Ref sig .tc := ⟨.hbm, 268, rfl⟩
abbrev main_call6_v1 : Ref sig .tc := ⟨.hbm, 269, rfl⟩
abbrev main_call6_v2 : Ref sig .tc := ⟨.hbm, 270, rfl⟩
abbrev main_call6_v3 : Ref sig .tc := ⟨.hbm, 271, rfl⟩
abbrev main_call6_v4 : Ref sig .tc := ⟨.hbm, 272, rfl⟩
abbrev main_v182 : Ref sig .tc := ⟨.hbm, 273, rfl⟩
abbrev main_c_46 : Ref sig .tc := ⟨.hbm, 274, rfl⟩
abbrev main_c_47 : Ref sig .tc := ⟨.hbm, 275, rfl⟩
abbrev main_call7_v0 : Ref sig .tc := ⟨.hbm, 276, rfl⟩
abbrev main_call7_v1 : Ref sig .tc := ⟨.hbm, 277, rfl⟩
abbrev main_call7_v2 : Ref sig .tc := ⟨.hbm, 278, rfl⟩
abbrev main_call7_v3 : Ref sig .tc := ⟨.hbm, 279, rfl⟩
abbrev main_call7_v4 : Ref sig .tc := ⟨.hbm, 280, rfl⟩
abbrev main_v183 : Ref sig .tc := ⟨.hbm, 281, rfl⟩
abbrev main_v184 : Ref sig .tc := ⟨.hbm, 282, rfl⟩
abbrev main_v185 : Ref sig .tc := ⟨.hbm, 283, rfl⟩
abbrev main_c_48 : Ref sig .tc := ⟨.hbm, 284, rfl⟩
abbrev main_v186 : Ref sig .tc := ⟨.hbm, 285, rfl⟩
abbrev main_v187 : Ref sig .tc := ⟨.hbm, 286, rfl⟩
abbrev main_c_49 : Ref sig .tc := ⟨.hbm, 287, rfl⟩
abbrev main_v188 : Ref sig .tc := ⟨.hbm, 288, rfl⟩
abbrev main_v189 : Ref sig .tc := ⟨.hbm, 289, rfl⟩
abbrev main_v190 : Ref sig .tc := ⟨.hbm, 290, rfl⟩
abbrev main_c_50 : Ref sig .tc := ⟨.hbm, 291, rfl⟩
abbrev main_v191 : Ref sig .tc := ⟨.hbm, 292, rfl⟩
abbrev main_v192 : Ref sig .tc := ⟨.hbm, 293, rfl⟩
abbrev main_c_51 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_c_52 : Ref sig .tc := ⟨.hbm, 298, rfl⟩
abbrev main_v196 : Ref sig .tc := ⟨.hbm, 299, rfl⟩
abbrev main_v197 : Ref sig .tc := ⟨.hbm, 300, rfl⟩
abbrev main_c_53 : Ref sig .tc := ⟨.hbm, 301, rfl⟩
abbrev main_v198 : Ref sig .tc := ⟨.hbm, 302, rfl⟩
abbrev main_v199 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_v205 : Ref sig .tc := ⟨.hbm, 309, rfl⟩
abbrev main_v206 : Ref sig .tc := ⟨.hbm, 310, rfl⟩
abbrev main_v207 : Ref sig .tc := ⟨.hbm, 311, rfl⟩
abbrev main_v208 : Ref sig .tc := ⟨.hbm, 312, rfl⟩
abbrev main_v209 : Ref sig .tc := ⟨.hbm, 313, rfl⟩
abbrev main_v210 : Ref sig .tc := ⟨.hbm, 314, rfl⟩
abbrev main_v211 : Ref sig .tc := ⟨.hbm, 315, rfl⟩
abbrev main_v212 : Ref sig .tc := ⟨.hbm, 316, rfl⟩
abbrev main_v213 : Ref sig .tc := ⟨.hbm, 317, rfl⟩
abbrev main_v214 : Ref sig .tc := ⟨.hbm, 318, rfl⟩
abbrev main_v215 : Ref sig .tc := ⟨.hbm, 319, rfl⟩
abbrev main_v216 : Ref sig .tc := ⟨.hbm, 320, rfl⟩
abbrev main_v217 : Ref sig .tc := ⟨.hbm, 321, rfl⟩
abbrev main_c_54 : Ref sig .tc := ⟨.hbm, 322, rfl⟩
abbrev main_v218 : Ref sig .tc := ⟨.hbm, 323, rfl⟩
abbrev main_v219 : Ref sig .tc := ⟨.hbm, 324, rfl⟩
abbrev main_c_55 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_c_56 : Ref sig .tc := ⟨.hbm, 329, rfl⟩
abbrev main_v223 : Ref sig .tc := ⟨.hbm, 330, rfl⟩
abbrev main_v224 : Ref sig .tc := ⟨.hbm, 331, rfl⟩
abbrev main_v225 : Ref sig .tc := ⟨.hbm, 332, rfl⟩
abbrev main_c_57 : Ref sig .tc := ⟨.hbm, 333, rfl⟩
abbrev main_v226 : Ref sig .tc := ⟨.hbm, 334, rfl⟩
abbrev main_v227 : Ref sig .tc := ⟨.hbm, 335, rfl⟩
abbrev main_v228 : Ref sig .tc := ⟨.hbm, 336, rfl⟩
abbrev main_c_58 : Ref sig .tc := ⟨.hbm, 337, rfl⟩
abbrev main_c_59 : Ref sig .tc := ⟨.hbm, 338, rfl⟩
abbrev main_call8_v0 : Ref sig .tc := ⟨.hbm, 339, rfl⟩
abbrev main_call8_v1 : Ref sig .tc := ⟨.hbm, 340, rfl⟩
abbrev main_call8_v2 : Ref sig .tc := ⟨.hbm, 341, rfl⟩
abbrev main_call8_v3 : Ref sig .tc := ⟨.hbm, 342, rfl⟩
abbrev main_call8_v4 : Ref sig .tc := ⟨.hbm, 343, rfl⟩
abbrev main_v229 : Ref sig .tc := ⟨.hbm, 344, rfl⟩
abbrev main_c_60 : Ref sig .tc := ⟨.hbm, 345, rfl⟩
abbrev main_c_61 : Ref sig .tc := ⟨.hbm, 346, rfl⟩
abbrev main_call9_v0 : Ref sig .tc := ⟨.hbm, 347, rfl⟩
abbrev main_call9_v1 : Ref sig .tc := ⟨.hbm, 348, rfl⟩
abbrev main_call9_v2 : Ref sig .tc := ⟨.hbm, 349, rfl⟩
abbrev main_call9_v3 : Ref sig .tc := ⟨.hbm, 350, rfl⟩
abbrev main_call9_v4 : Ref sig .tc := ⟨.hbm, 351, rfl⟩
abbrev main_v230 : Ref sig .tc := ⟨.hbm, 352, rfl⟩
abbrev main_v231 : Ref sig .tc := ⟨.hbm, 353, rfl⟩
abbrev main_v232 : Ref sig .tc := ⟨.hbm, 354, rfl⟩
abbrev main_c_62 : Ref sig .tc := ⟨.hbm, 355, rfl⟩
abbrev main_v233 : Ref sig .tc := ⟨.hbm, 356, rfl⟩
abbrev main_v234 : Ref sig .tc := ⟨.hbm, 357, rfl⟩
abbrev main_c_63 : Ref sig .tc := ⟨.hbm, 358, rfl⟩
abbrev main_v235 : Ref sig .tc := ⟨.hbm, 359, rfl⟩
abbrev main_v236 : Ref sig .tc := ⟨.hbm, 360, rfl⟩
abbrev main_v237 : Ref sig .tc := ⟨.hbm, 361, rfl⟩
abbrev main_c_64 : Ref sig .tc := ⟨.hbm, 362, rfl⟩
abbrev main_v238 : Ref sig .tc := ⟨.hbm, 363, rfl⟩
abbrev main_v239 : Ref sig .tc := ⟨.hbm, 364, rfl⟩
abbrev main_c_65 : Ref sig .tc := ⟨.hbm, 365, rfl⟩
abbrev main_v240 : Ref sig .tc := ⟨.hbm, 366, rfl⟩
abbrev main_v241 : Ref sig .tc := ⟨.hbm, 367, rfl⟩
abbrev main_v242 : Ref sig .tc := ⟨.hbm, 368, rfl⟩
abbrev main_c_66 : Ref sig .tc := ⟨.hbm, 369, rfl⟩
abbrev main_v243 : Ref sig .tc := ⟨.hbm, 370, rfl⟩
abbrev main_v244 : Ref sig .tc := ⟨.hbm, 371, rfl⟩
abbrev main_c_67 : Ref sig .tc := ⟨.hbm, 372, rfl⟩
abbrev main_v245 : Ref sig .tc := ⟨.hbm, 373, rfl⟩
abbrev main_v246 : Ref sig .tc := ⟨.hbm, 374, rfl⟩
abbrev main_v247 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_v253 : Ref sig .tc := ⟨.hbm, 381, rfl⟩
abbrev main_v254 : Ref sig .tc := ⟨.hbm, 382, rfl⟩
abbrev main_v255 : Ref sig .tc := ⟨.hbm, 383, rfl⟩
abbrev main_v256 : Ref sig .tc := ⟨.hbm, 384, rfl⟩
abbrev main_v257 : Ref sig .tc := ⟨.hbm, 385, rfl⟩
abbrev main_v258 : Ref sig .tc := ⟨.hbm, 386, rfl⟩
abbrev main_v259 : Ref sig .tc := ⟨.hbm, 387, rfl⟩
abbrev main_v260 : Ref sig .tc := ⟨.hbm, 388, rfl⟩
abbrev main_v261 : Ref sig .tc := ⟨.hbm, 389, rfl⟩
abbrev main_v262 : Ref sig .tc := ⟨.hbm, 390, rfl⟩
abbrev main_v263 : Ref sig .tc := ⟨.hbm, 391, rfl⟩
abbrev main_v264 : Ref sig .tc := ⟨.hbm, 392, rfl⟩
abbrev main_v265 : Ref sig .tc := ⟨.hbm, 393, rfl⟩
abbrev main_v266 : Ref sig .tc := ⟨.hbm, 394, rfl⟩
abbrev main_v267 : Ref sig .tc := ⟨.hbm, 395, rfl⟩
abbrev main_cst_68 : Ref sig .tc := ⟨.hbm, 396, rfl⟩
abbrev main_v268 : Ref sig .tc := ⟨.hbm, 397, rfl⟩
abbrev main_v269 : Ref sig .tc := ⟨.hbm, 398, rfl⟩
abbrev main_cst_69 : Ref sig .tc := ⟨.hbm, 399, rfl⟩
abbrev main_v270 : Ref sig .tc := ⟨.hbm, 400, rfl⟩
abbrev main_v271 : Ref sig .tc := ⟨.hbm, 401, rfl⟩
abbrev main_cst_70 : Ref sig .tc := ⟨.hbm, 402, rfl⟩
abbrev main_v272 : Ref sig .tc := ⟨.hbm, 403, rfl⟩
abbrev main_v273 : Ref sig .tc := ⟨.hbm, 404, rfl⟩
abbrev main_cst_71 : Ref sig .tc := ⟨.hbm, 405, rfl⟩
abbrev main_v274 : Ref sig .tc := ⟨.hbm, 406, rfl⟩
abbrev main_v275 : Ref sig .tc := ⟨.hbm, 407, rfl⟩
abbrev main_cst_72 : Ref sig .tc := ⟨.hbm, 408, rfl⟩
abbrev main_v276 : Ref sig .tc := ⟨.hbm, 409, rfl⟩
abbrev main_v277 : Ref sig .tc := ⟨.hbm, 410, rfl⟩
abbrev main_cst_73 : Ref sig .tc := ⟨.hbm, 411, rfl⟩
abbrev main_v278 : Ref sig .tc := ⟨.hbm, 412, rfl⟩
abbrev main_v279 : Ref sig .tc := ⟨.hbm, 413, rfl⟩
abbrev main_cst_74 : Ref sig .tc := ⟨.hbm, 414, rfl⟩
abbrev main_v280 : Ref sig .tc := ⟨.hbm, 415, rfl⟩
abbrev main_v281 : Ref sig .tc := ⟨.hbm, 416, rfl⟩
abbrev main_cst_75 : Ref sig .tc := ⟨.hbm, 417, rfl⟩
abbrev main_v282 : Ref sig .tc := ⟨.hbm, 418, rfl⟩
abbrev main_v283 : Ref sig .tc := ⟨.hbm, 419, rfl⟩
abbrev main_v284 : Ref sig .tc := ⟨.hbm, 420, rfl⟩
abbrev main_v285 : Ref sig .tc := ⟨.hbm, 421, rfl⟩
abbrev main_cst_76 : Ref sig .tc := ⟨.hbm, 422, rfl⟩
abbrev main_v286 : Ref sig .tc := ⟨.hbm, 423, rfl⟩
abbrev main_v287 : Ref sig .tc := ⟨.hbm, 424, rfl⟩
abbrev main_cst_77 : Ref sig .tc := ⟨.hbm, 425, rfl⟩
abbrev main_v288 : Ref sig .tc := ⟨.hbm, 426, rfl⟩
abbrev main_v289 : Ref sig .tc := ⟨.hbm, 427, rfl⟩
abbrev main_v290 : Ref sig .tc := ⟨.hbm, 428, rfl⟩
abbrev main_cst_78 : Ref sig .tc := ⟨.hbm, 429, rfl⟩
abbrev main_v291 : Ref sig .tc := ⟨.hbm, 430, rfl⟩
abbrev main_v292 : Ref sig .tc := ⟨.hbm, 431, rfl⟩
abbrev main_v293 : Ref sig .tc := ⟨.hbm, 432, rfl⟩
abbrev main_cst_79 : Ref sig .tc := ⟨.hbm, 433, rfl⟩
abbrev main_v294 : Ref sig .tc := ⟨.hbm, 434, rfl⟩
abbrev main_v295 : Ref sig .tc := ⟨.hbm, 435, rfl⟩
abbrev main_v296 : Ref sig .tc := ⟨.hbm, 436, rfl⟩
abbrev main_v297 : Ref sig .tc := ⟨.hbm, 437, rfl⟩
abbrev main_c_80 : Ref sig .tc := ⟨.hbm, 438, rfl⟩
abbrev main_v298 : Ref sig .tc := ⟨.hbm, 439, rfl⟩
abbrev main_v299 : Ref sig .tc := ⟨.hbm, 440, rfl⟩
abbrev main_c_81 : Ref sig .tc := ⟨.hbm, 441, rfl⟩
abbrev main_v300 : Ref sig .tc := ⟨.hbm, 442, rfl⟩
abbrev main_v301 : Ref sig .tc := ⟨.hbm, 443, rfl⟩
abbrev main_v302 : Ref sig .tc := ⟨.hbm, 444, rfl⟩
abbrev main_c_82 : Ref sig .tc := ⟨.hbm, 445, rfl⟩
abbrev main_v303 : Ref sig .tc := ⟨.hbm, 446, rfl⟩
abbrev main_v304 : Ref sig .tc := ⟨.hbm, 447, rfl⟩
abbrev main_v305 : Ref sig .tc := ⟨.hbm, 448, rfl⟩
abbrev main_c_83 : Ref sig .tc := ⟨.hbm, 449, rfl⟩
abbrev main_v306 : Ref sig .tc := ⟨.hbm, 450, rfl⟩
abbrev main_v307 : Ref sig .tc := ⟨.hbm, 451, rfl⟩
abbrev main_v308 : Ref sig .tc := ⟨.hbm, 452, rfl⟩
abbrev main_c_84 : Ref sig .tc := ⟨.hbm, 453, rfl⟩
abbrev main_c_85 : Ref sig .tc := ⟨.hbm, 454, rfl⟩
abbrev main_call10_v0 : Ref sig .tc := ⟨.hbm, 455, rfl⟩
abbrev main_call10_v1 : Ref sig .tc := ⟨.hbm, 456, rfl⟩
abbrev main_call10_v2 : Ref sig .tc := ⟨.hbm, 457, rfl⟩
abbrev main_call10_v3 : Ref sig .tc := ⟨.hbm, 458, rfl⟩
abbrev main_call10_v4 : Ref sig .tc := ⟨.hbm, 459, rfl⟩
abbrev main_v309 : Ref sig .tc := ⟨.hbm, 460, rfl⟩
abbrev main_c_86 : Ref sig .tc := ⟨.hbm, 461, rfl⟩
abbrev main_c_87 : Ref sig .tc := ⟨.hbm, 462, rfl⟩
abbrev main_call11_v0 : Ref sig .tc := ⟨.hbm, 463, rfl⟩
abbrev main_call11_v1 : Ref sig .tc := ⟨.hbm, 464, rfl⟩
abbrev main_call11_v2 : Ref sig .tc := ⟨.hbm, 465, rfl⟩
abbrev main_call11_v3 : Ref sig .tc := ⟨.hbm, 466, rfl⟩
abbrev main_call11_v4 : Ref sig .tc := ⟨.hbm, 467, rfl⟩
abbrev main_v310 : Ref sig .tc := ⟨.hbm, 468, rfl⟩
abbrev main_v311 : Ref sig .tc := ⟨.hbm, 469, rfl⟩
abbrev main_v312 : Ref sig .tc := ⟨.hbm, 470, rfl⟩
abbrev main_c_88 : Ref sig .tc := ⟨.hbm, 471, rfl⟩
abbrev main_v313 : Ref sig .tc := ⟨.hbm, 472, rfl⟩
abbrev main_v314 : Ref sig .tc := ⟨.hbm, 473, rfl⟩
abbrev main_c_89 : Ref sig .tc := ⟨.hbm, 474, rfl⟩
abbrev main_v315 : Ref sig .tc := ⟨.hbm, 475, rfl⟩
abbrev main_v316 : Ref sig .tc := ⟨.hbm, 476, rfl⟩
abbrev main_v317 : Ref sig .tc := ⟨.hbm, 477, rfl⟩
abbrev main_c_90 : Ref sig .tc := ⟨.hbm, 478, rfl⟩
abbrev main_v318 : Ref sig .tc := ⟨.hbm, 479, rfl⟩
abbrev main_v319 : Ref sig .tc := ⟨.hbm, 480, rfl⟩
abbrev main_c_91 : Ref sig .tc := ⟨.hbm, 481, rfl⟩
abbrev main_v320 : Ref sig .tc := ⟨.hbm, 482, rfl⟩
abbrev main_v321 : Ref sig .tc := ⟨.hbm, 483, rfl⟩
abbrev main_v322 : Ref sig .tc := ⟨.hbm, 484, rfl⟩
abbrev main_c_92 : Ref sig .tc := ⟨.hbm, 485, rfl⟩
abbrev main_v323 : Ref sig .tc := ⟨.hbm, 486, rfl⟩
abbrev main_v324 : Ref sig .tc := ⟨.hbm, 487, rfl⟩
abbrev main_c_93 : Ref sig .tc := ⟨.hbm, 488, rfl⟩
abbrev main_v325 : Ref sig .tc := ⟨.hbm, 489, rfl⟩
abbrev main_v326 : Ref sig .tc := ⟨.hbm, 490, rfl⟩
abbrev main_v327 : Ref sig .tc := ⟨.hbm, 491, rfl⟩
abbrev main_v328 : Ref sig .tc := ⟨.hbm, 492, rfl⟩
abbrev main_v329 : Ref sig .tc := ⟨.hbm, 493, rfl⟩
abbrev main_v330 : Ref sig .tc := ⟨.hbm, 494, rfl⟩
abbrev main_v331 : Ref sig .tc := ⟨.hbm, 495, rfl⟩
abbrev main_v332 : Ref sig .tc := ⟨.hbm, 496, rfl⟩
abbrev main_v333 : Ref sig .tc := ⟨.hbm, 497, rfl⟩
abbrev main_v334 : Ref sig .tc := ⟨.hbm, 498, rfl⟩
abbrev main_v335 : Ref sig .tc := ⟨.hbm, 499, rfl⟩
abbrev main_v336 : Ref sig .tc := ⟨.hbm, 500, rfl⟩
abbrev main_v337 : Ref sig .tc := ⟨.hbm, 501, rfl⟩
abbrev main_v338 : Ref sig .tc := ⟨.hbm, 502, rfl⟩
abbrev main_v339 : Ref sig .tc := ⟨.hbm, 503, rfl⟩
abbrev main_v340 : Ref sig .tc := ⟨.hbm, 504, rfl⟩
abbrev main_v341 : Ref sig .tc := ⟨.hbm, 505, rfl⟩
abbrev main_v342 : Ref sig .tc := ⟨.hbm, 506, rfl⟩
abbrev main_v343 : Ref sig .tc := ⟨.hbm, 507, rfl⟩
abbrev main_c_94 : Ref sig .tc := ⟨.hbm, 508, rfl⟩
abbrev main_v344 : Ref sig .tc := ⟨.hbm, 509, rfl⟩
abbrev main_v345 : Ref sig .tc := ⟨.hbm, 510, rfl⟩
abbrev main_c_95 : Ref sig .tc := ⟨.hbm, 511, rfl⟩
abbrev main_v346 : Ref sig .tc := ⟨.hbm, 512, rfl⟩
abbrev main_v347 : Ref sig .tc := ⟨.hbm, 513, rfl⟩
abbrev main_v348 : Ref sig .tc := ⟨.hbm, 514, rfl⟩
abbrev main_c_96 : Ref sig .tc := ⟨.hbm, 515, rfl⟩
abbrev main_v349 : Ref sig .tc := ⟨.hbm, 516, rfl⟩
abbrev main_v350 : Ref sig .tc := ⟨.hbm, 517, rfl⟩
abbrev main_v351 : Ref sig .tc := ⟨.hbm, 518, rfl⟩
abbrev main_c_97 : Ref sig .tc := ⟨.hbm, 519, rfl⟩
abbrev main_v352 : Ref sig .tc := ⟨.hbm, 520, rfl⟩
abbrev main_v353 : Ref sig .tc := ⟨.hbm, 521, rfl⟩
abbrev main_v354 : Ref sig .tc := ⟨.hbm, 522, rfl⟩
abbrev main_c_98 : Ref sig .tc := ⟨.hbm, 523, rfl⟩
abbrev main_c_99 : Ref sig .tc := ⟨.hbm, 524, rfl⟩
abbrev main_call12_v0 : Ref sig .tc := ⟨.hbm, 525, rfl⟩
abbrev main_call12_v1 : Ref sig .tc := ⟨.hbm, 526, rfl⟩
abbrev main_call12_v2 : Ref sig .tc := ⟨.hbm, 527, rfl⟩
abbrev main_call12_v3 : Ref sig .tc := ⟨.hbm, 528, rfl⟩
abbrev main_call12_v4 : Ref sig .tc := ⟨.hbm, 529, rfl⟩
abbrev main_v355 : Ref sig .tc := ⟨.hbm, 530, rfl⟩
abbrev main_c_100 : Ref sig .tc := ⟨.hbm, 531, rfl⟩
abbrev main_c_101 : Ref sig .tc := ⟨.hbm, 532, rfl⟩
abbrev main_call13_v0 : Ref sig .tc := ⟨.hbm, 533, rfl⟩
abbrev main_call13_v1 : Ref sig .tc := ⟨.hbm, 534, rfl⟩
abbrev main_call13_v2 : Ref sig .tc := ⟨.hbm, 535, rfl⟩
abbrev main_call13_v3 : Ref sig .tc := ⟨.hbm, 536, rfl⟩
abbrev main_call13_v4 : Ref sig .tc := ⟨.hbm, 537, rfl⟩
abbrev main_v356 : Ref sig .tc := ⟨.hbm, 538, rfl⟩
abbrev main_v357 : Ref sig .tc := ⟨.hbm, 539, rfl⟩
abbrev main_v358 : Ref sig .tc := ⟨.hbm, 540, rfl⟩
abbrev main_c_102 : Ref sig .tc := ⟨.hbm, 541, rfl⟩
abbrev main_v359 : Ref sig .tc := ⟨.hbm, 542, rfl⟩
abbrev main_v360 : Ref sig .tc := ⟨.hbm, 543, rfl⟩
abbrev main_c_103 : Ref sig .tc := ⟨.hbm, 544, rfl⟩
abbrev main_v361 : Ref sig .tc := ⟨.hbm, 545, rfl⟩
abbrev main_v362 : Ref sig .tc := ⟨.hbm, 546, rfl⟩
abbrev main_v363 : Ref sig .tc := ⟨.hbm, 547, rfl⟩
abbrev main_c_104 : Ref sig .tc := ⟨.hbm, 548, rfl⟩
abbrev main_v364 : Ref sig .tc := ⟨.hbm, 549, rfl⟩
abbrev main_v365 : Ref sig .tc := ⟨.hbm, 550, rfl⟩
abbrev main_c_105 : Ref sig .tc := ⟨.hbm, 551, rfl⟩
abbrev main_v366 : Ref sig .tc := ⟨.hbm, 552, rfl⟩
abbrev main_v367 : Ref sig .tc := ⟨.hbm, 553, rfl⟩
abbrev main_v368 : Ref sig .tc := ⟨.hbm, 554, rfl⟩
abbrev main_c_106 : Ref sig .tc := ⟨.hbm, 555, rfl⟩
abbrev main_v369 : Ref sig .tc := ⟨.hbm, 556, rfl⟩
abbrev main_v370 : Ref sig .tc := ⟨.hbm, 557, rfl⟩
abbrev main_c_107 : Ref sig .tc := ⟨.hbm, 558, rfl⟩
abbrev main_v371 : Ref sig .tc := ⟨.hbm, 559, rfl⟩
abbrev main_v372 : Ref sig .tc := ⟨.hbm, 560, rfl⟩
abbrev main_v373 : Ref sig .tc := ⟨.hbm, 561, rfl⟩
abbrev main_v374 : Ref sig .tc := ⟨.hbm, 562, rfl⟩
abbrev main_v375 : Ref sig .tc := ⟨.hbm, 563, rfl⟩
abbrev main_v376 : Ref sig .tc := ⟨.hbm, 564, rfl⟩
abbrev main_v377 : Ref sig .tc := ⟨.hbm, 565, rfl⟩
abbrev main_v378 : Ref sig .tc := ⟨.hbm, 566, rfl⟩
abbrev main_v379 : Ref sig .tc := ⟨.hbm, 567, rfl⟩
abbrev main_v380 : Ref sig .tc := ⟨.hbm, 568, rfl⟩
abbrev main_v381 : Ref sig .tc := ⟨.hbm, 569, rfl⟩
abbrev main_v382 : Ref sig .tc := ⟨.hbm, 570, rfl⟩
abbrev main_v383 : Ref sig .tc := ⟨.hbm, 571, rfl⟩
abbrev main_v384 : Ref sig .tc := ⟨.hbm, 572, rfl⟩
abbrev main_v385 : Ref sig .tc := ⟨.hbm, 573, rfl⟩
abbrev main_v386 : Ref sig .tc := ⟨.hbm, 574, rfl⟩
abbrev main_v387 : Ref sig .tc := ⟨.hbm, 575, rfl⟩
abbrev main_v388 : Ref sig .tc := ⟨.hbm, 576, rfl⟩
abbrev main_v389 : Ref sig .tc := ⟨.hbm, 577, rfl⟩
abbrev main_v390 : Ref sig .tc := ⟨.hbm, 578, rfl⟩
abbrev main_c_108 : Ref sig .tc := ⟨.hbm, 579, rfl⟩
abbrev main_v391 : Ref sig .tc := ⟨.hbm, 580, rfl⟩
abbrev main_v392 : Ref sig .tc := ⟨.hbm, 581, rfl⟩
abbrev main_c_109 : Ref sig .tc := ⟨.hbm, 582, rfl⟩
abbrev main_v393 : Ref sig .tc := ⟨.hbm, 583, rfl⟩
abbrev main_v394 : Ref sig .tc := ⟨.hbm, 584, rfl⟩
abbrev main_v395 : Ref sig .tc := ⟨.hbm, 585, rfl⟩
abbrev main_c_110 : Ref sig .tc := ⟨.hbm, 586, rfl⟩
abbrev main_v396 : Ref sig .tc := ⟨.hbm, 587, rfl⟩
abbrev main_v397 : Ref sig .tc := ⟨.hbm, 588, rfl⟩
abbrev main_v398 : Ref sig .tc := ⟨.hbm, 589, rfl⟩
abbrev main_c_111 : Ref sig .tc := ⟨.hbm, 590, rfl⟩
abbrev main_v399 : Ref sig .tc := ⟨.hbm, 591, rfl⟩
abbrev main_v400 : Ref sig .tc := ⟨.hbm, 592, rfl⟩
abbrev main_v401 : Ref sig .tc := ⟨.hbm, 593, rfl⟩
abbrev main_c_112 : Ref sig .tc := ⟨.hbm, 594, rfl⟩
abbrev main_c_113 : Ref sig .tc := ⟨.hbm, 595, rfl⟩
abbrev main_call14_v0 : Ref sig .tc := ⟨.hbm, 596, rfl⟩
abbrev main_call14_v1 : Ref sig .tc := ⟨.hbm, 597, rfl⟩
abbrev main_call14_v2 : Ref sig .tc := ⟨.hbm, 598, rfl⟩
abbrev main_call14_v3 : Ref sig .tc := ⟨.hbm, 599, rfl⟩
abbrev main_call14_v4 : Ref sig .tc := ⟨.hbm, 600, rfl⟩
abbrev main_v402 : Ref sig .tc := ⟨.hbm, 601, rfl⟩
abbrev main_c_114 : Ref sig .tc := ⟨.hbm, 602, rfl⟩
abbrev main_c_115 : Ref sig .tc := ⟨.hbm, 603, rfl⟩
abbrev main_call15_v0 : Ref sig .tc := ⟨.hbm, 604, rfl⟩
abbrev main_call15_v1 : Ref sig .tc := ⟨.hbm, 605, rfl⟩
abbrev main_call15_v2 : Ref sig .tc := ⟨.hbm, 606, rfl⟩
abbrev main_call15_v3 : Ref sig .tc := ⟨.hbm, 607, rfl⟩
abbrev main_call15_v4 : Ref sig .tc := ⟨.hbm, 608, rfl⟩
abbrev main_v403 : Ref sig .tc := ⟨.hbm, 609, rfl⟩
abbrev main_v404 : Ref sig .tc := ⟨.hbm, 610, rfl⟩
abbrev main_v405 : Ref sig .tc := ⟨.hbm, 611, rfl⟩
abbrev main_c_116 : Ref sig .tc := ⟨.hbm, 612, rfl⟩
abbrev main_v406 : Ref sig .tc := ⟨.hbm, 613, rfl⟩
abbrev main_v407 : Ref sig .tc := ⟨.hbm, 614, rfl⟩
abbrev main_c_117 : Ref sig .tc := ⟨.hbm, 615, rfl⟩
abbrev main_v408 : Ref sig .tc := ⟨.hbm, 616, rfl⟩
abbrev main_v409 : Ref sig .tc := ⟨.hbm, 617, rfl⟩
abbrev main_v410 : Ref sig .tc := ⟨.hbm, 618, rfl⟩
abbrev main_c_118 : Ref sig .tc := ⟨.hbm, 619, rfl⟩
abbrev main_v411 : Ref sig .tc := ⟨.hbm, 620, rfl⟩
abbrev main_v412 : Ref sig .tc := ⟨.hbm, 621, rfl⟩
abbrev main_c_119 : Ref sig .tc := ⟨.hbm, 622, rfl⟩
abbrev main_v413 : Ref sig .tc := ⟨.hbm, 623, rfl⟩
abbrev main_v414 : Ref sig .tc := ⟨.hbm, 624, rfl⟩
abbrev main_v415 : Ref sig .tc := ⟨.hbm, 625, rfl⟩
abbrev main_c_120 : Ref sig .tc := ⟨.hbm, 626, rfl⟩
abbrev main_v416 : Ref sig .tc := ⟨.hbm, 627, rfl⟩
abbrev main_v417 : Ref sig .tc := ⟨.hbm, 628, rfl⟩
abbrev main_c_121 : Ref sig .tc := ⟨.hbm, 629, rfl⟩
abbrev main_v418 : Ref sig .tc := ⟨.hbm, 630, rfl⟩
abbrev main_v419 : Ref sig .tc := ⟨.hbm, 631, rfl⟩
abbrev main_v420 : Ref sig .tc := ⟨.hbm, 632, rfl⟩
abbrev main_v421 : Ref sig .tc := ⟨.hbm, 633, rfl⟩
abbrev main_v422 : Ref sig .tc := ⟨.hbm, 634, rfl⟩
abbrev main_v423 : Ref sig .tc := ⟨.hbm, 635, rfl⟩
abbrev main_v424 : Ref sig .tc := ⟨.hbm, 636, rfl⟩
abbrev main_v425 : Ref sig .tc := ⟨.hbm, 637, rfl⟩
abbrev main_v426 : Ref sig .tc := ⟨.hbm, 638, rfl⟩
abbrev main_v427 : Ref sig .tc := ⟨.hbm, 639, rfl⟩
abbrev main_v428 : Ref sig .tc := ⟨.hbm, 640, rfl⟩
abbrev main_v429 : Ref sig .tc := ⟨.hbm, 641, rfl⟩
abbrev main_v430 : Ref sig .tc := ⟨.hbm, 642, rfl⟩
abbrev main_v431 : Ref sig .tc := ⟨.hbm, 643, rfl⟩
abbrev main_v432 : Ref sig .tc := ⟨.hbm, 644, rfl⟩
abbrev main_v433 : Ref sig .tc := ⟨.hbm, 645, rfl⟩
abbrev main_v434 : Ref sig .tc := ⟨.hbm, 646, rfl⟩
abbrev main_v435 : Ref sig .tc := ⟨.hbm, 647, rfl⟩
abbrev main_v436 : Ref sig .tc := ⟨.hbm, 648, rfl⟩
abbrev main_v437 : Ref sig .tc := ⟨.hbm, 649, rfl⟩
abbrev main_c_122 : Ref sig .tc := ⟨.hbm, 650, rfl⟩
abbrev main_v438 : Ref sig .tc := ⟨.hbm, 651, rfl⟩
abbrev main_v439 : Ref sig .tc := ⟨.hbm, 652, rfl⟩
abbrev main_c_123 : Ref sig .tc := ⟨.hbm, 653, rfl⟩
abbrev main_v440 : Ref sig .tc := ⟨.hbm, 654, rfl⟩
abbrev main_v441 : Ref sig .tc := ⟨.hbm, 655, rfl⟩
abbrev main_v442 : Ref sig .tc := ⟨.hbm, 656, rfl⟩
abbrev main_c_124 : Ref sig .tc := ⟨.hbm, 657, rfl⟩
abbrev main_v443 : Ref sig .tc := ⟨.hbm, 658, rfl⟩
abbrev main_v444 : Ref sig .tc := ⟨.hbm, 659, rfl⟩
abbrev main_v445 : Ref sig .tc := ⟨.hbm, 660, rfl⟩
abbrev main_c_125 : Ref sig .tc := ⟨.hbm, 661, rfl⟩
abbrev main_v446 : Ref sig .tc := ⟨.hbm, 662, rfl⟩
abbrev main_v447 : Ref sig .tc := ⟨.hbm, 663, rfl⟩
abbrev main_v448 : Ref sig .tc := ⟨.hbm, 664, rfl⟩
abbrev main_c_126 : Ref sig .tc := ⟨.hbm, 665, rfl⟩
abbrev main_c_127 : Ref sig .tc := ⟨.hbm, 666, rfl⟩
abbrev main_call16_v0 : Ref sig .tc := ⟨.hbm, 667, rfl⟩
abbrev main_call16_v1 : Ref sig .tc := ⟨.hbm, 668, rfl⟩
abbrev main_call16_v2 : Ref sig .tc := ⟨.hbm, 669, rfl⟩
abbrev main_call16_v3 : Ref sig .tc := ⟨.hbm, 670, rfl⟩
abbrev main_call16_v4 : Ref sig .tc := ⟨.hbm, 671, rfl⟩
abbrev main_v449 : Ref sig .tc := ⟨.hbm, 672, rfl⟩
abbrev main_c_128 : Ref sig .tc := ⟨.hbm, 673, rfl⟩
abbrev main_c_129 : Ref sig .tc := ⟨.hbm, 674, rfl⟩
abbrev main_call17_v0 : Ref sig .tc := ⟨.hbm, 675, rfl⟩
abbrev main_call17_v1 : Ref sig .tc := ⟨.hbm, 676, rfl⟩
abbrev main_call17_v2 : Ref sig .tc := ⟨.hbm, 677, rfl⟩
abbrev main_call17_v3 : Ref sig .tc := ⟨.hbm, 678, rfl⟩
abbrev main_call17_v4 : Ref sig .tc := ⟨.hbm, 679, rfl⟩
abbrev main_v450 : Ref sig .tc := ⟨.hbm, 680, rfl⟩
abbrev main_v451 : Ref sig .tc := ⟨.hbm, 681, rfl⟩
abbrev main_v452 : Ref sig .tc := ⟨.hbm, 682, rfl⟩
abbrev main_c_130 : Ref sig .tc := ⟨.hbm, 683, rfl⟩
abbrev main_v453 : Ref sig .tc := ⟨.hbm, 684, rfl⟩
abbrev main_v454 : Ref sig .tc := ⟨.hbm, 685, rfl⟩
abbrev main_c_131 : Ref sig .tc := ⟨.hbm, 686, rfl⟩
abbrev main_v455 : Ref sig .tc := ⟨.hbm, 687, rfl⟩
abbrev main_v456 : Ref sig .tc := ⟨.hbm, 688, rfl⟩
abbrev main_v457 : Ref sig .tc := ⟨.hbm, 689, rfl⟩
abbrev main_c_132 : Ref sig .tc := ⟨.hbm, 690, rfl⟩
abbrev main_v458 : Ref sig .tc := ⟨.hbm, 691, rfl⟩
abbrev main_v459 : Ref sig .tc := ⟨.hbm, 692, rfl⟩
abbrev main_c_133 : Ref sig .tc := ⟨.hbm, 693, rfl⟩
abbrev main_v460 : Ref sig .tc := ⟨.hbm, 694, rfl⟩
abbrev main_v461 : Ref sig .tc := ⟨.hbm, 695, rfl⟩
abbrev main_v462 : Ref sig .tc := ⟨.hbm, 696, rfl⟩
abbrev main_c_134 : Ref sig .tc := ⟨.hbm, 697, rfl⟩
abbrev main_v463 : Ref sig .tc := ⟨.hbm, 698, rfl⟩
abbrev main_v464 : Ref sig .tc := ⟨.hbm, 699, rfl⟩
abbrev main_c_135 : Ref sig .tc := ⟨.hbm, 700, rfl⟩
abbrev main_v465 : Ref sig .tc := ⟨.hbm, 701, rfl⟩
abbrev main_v466 : Ref sig .tc := ⟨.hbm, 702, rfl⟩
abbrev main_v467 : Ref sig .tc := ⟨.hbm, 703, rfl⟩
abbrev main_v468 : Ref sig .tc := ⟨.hbm, 704, rfl⟩
abbrev main_v469 : Ref sig .tc := ⟨.hbm, 705, rfl⟩
abbrev main_v470 : Ref sig .tc := ⟨.hbm, 706, rfl⟩
abbrev main_v471 : Ref sig .tc := ⟨.hbm, 707, rfl⟩
abbrev main_v472 : Ref sig .tc := ⟨.hbm, 708, rfl⟩
abbrev main_v473 : Ref sig .tc := ⟨.hbm, 709, rfl⟩
abbrev main_v474 : Ref sig .tc := ⟨.hbm, 710, rfl⟩
abbrev main_v475 : Ref sig .tc := ⟨.hbm, 711, rfl⟩
abbrev main_v476 : Ref sig .tc := ⟨.hbm, 712, rfl⟩
abbrev main_v477 : Ref sig .tc := ⟨.hbm, 713, rfl⟩
abbrev main_v478 : Ref sig .tc := ⟨.hbm, 714, rfl⟩
abbrev main_v479 : Ref sig .tc := ⟨.hbm, 715, rfl⟩
abbrev main_v480 : Ref sig .tc := ⟨.hbm, 716, rfl⟩
abbrev main_v481 : Ref sig .tc := ⟨.hbm, 717, rfl⟩
abbrev main_v482 : Ref sig .tc := ⟨.hbm, 718, rfl⟩
abbrev main_v483 : Ref sig .tc := ⟨.hbm, 719, rfl⟩
abbrev main_v484 : Ref sig .tc := ⟨.hbm, 720, rfl⟩
abbrev main_v485 : Ref sig .tc := ⟨.hbm, 721, rfl⟩
abbrev main_v486 : Ref sig .tc := ⟨.hbm, 722, rfl⟩
abbrev main_v487 : Ref sig .tc := ⟨.hbm, 723, rfl⟩
abbrev main_cst_136 : Ref sig .tc := ⟨.hbm, 724, rfl⟩
abbrev main_v488 : Ref sig .tc := ⟨.hbm, 725, rfl⟩
abbrev main_v489 : Ref sig .tc := ⟨.hbm, 726, rfl⟩
abbrev main_v490 : Ref sig .tc := ⟨.hbm, 727, rfl⟩
abbrev main_v491 : Ref sig .tc := ⟨.hbm, 728, rfl⟩
abbrev main_cst_137 : Ref sig .tc := ⟨.hbm, 729, rfl⟩
abbrev main_v492 : Ref sig .tc := ⟨.hbm, 730, rfl⟩
abbrev main_cst_138 : Ref sig .tc := ⟨.hbm, 731, rfl⟩
abbrev main_v493 : Ref sig .tc := ⟨.hbm, 732, rfl⟩
abbrev main_v494 : Ref sig .tc := ⟨.hbm, 733, rfl⟩
abbrev main_v495 : Ref sig .tc := ⟨.hbm, 734, rfl⟩
abbrev main_v496 : Ref sig .tc := ⟨.hbm, 735, rfl⟩
abbrev main_cst_139 : Ref sig .tc := ⟨.hbm, 736, rfl⟩
abbrev main_v497 : Ref sig .tc := ⟨.hbm, 737, rfl⟩
abbrev main_v498 : Ref sig .tc := ⟨.hbm, 738, rfl⟩
abbrev main_cst_140 : Ref sig .tc := ⟨.hbm, 739, rfl⟩
abbrev main_v499 : Ref sig .tc := ⟨.hbm, 740, rfl⟩
abbrev main_v500 : Ref sig .tc := ⟨.hbm, 741, rfl⟩
abbrev main_v501 : Ref sig .tc := ⟨.hbm, 742, rfl⟩
abbrev main_v502 : Ref sig .tc := ⟨.hbm, 743, rfl⟩
abbrev main_v503 : Ref sig .tc := ⟨.hbm, 744, rfl⟩

abbrev nD : Nat := 1
abbrev τ : Topo := Topo.v7x

variable {F : FTy → Type} [FloatOps F]
-- ==== Proof.Batch.lean ====
/-
  What the kernel computes for ONE batch element, stage by stage, in the vector operations of its body.
  A block holds eight batch elements, and the body does the same for each of them: `batch` names that once.
-/
module

public import proofs.«01_k».proof.Proof.Gen.KernelIdeal.Frame

@[expose] public section

noncomputable section

namespace Cert.Batch

open Cert.KernelIdeal Cert.KernelIdeal.Gen Idealize.ShloMosaic

variable {F : FTy → Type} [FloatOps F]

/-- The 197 rows of one batch element, as a matrix. -/
def rows (x : Vec F S1x197x768 .f32) : FVec F S197x768 .f32 :=
  shapeCast S197x768 x shapeCasts_S1x197x768_S197x768

/-- The rows of one batch element without the first. -/
def tokens (x : Vec F S1x197x768 .f32) : FVec F S196x768 .f32 :=
  extractStridedSlice S196x768 ![1, 0] (rows x) slices_S197x768_o1_0_S196x768

/-- The queries: every row times the weights, plus the bias. -/
def queries (x : Vec F S1x197x768 .f32) (w : Vec F S768x768 .f32) (b : Vec F S1x768 .f32) : FVec F S197x768 .f32 :=
  addf (matmul dot_S197x768_S768x768_S197x768_1_0_0_1_n_n none (rows x) w (constant S197x768 .f32 0x00000000#32))
    (broadcastTo S197x768 (shapeCast S1x768 b shapeCasts_S1x768_S1x768) broadcasts_S1x768_S197x768)

/-- The keys (and, with other weights, the values): every row but the first times the weights, plus the bias. -/
def keys (x : Vec F S1x197x768 .f32) (w : Vec F S768x768 .f32) (b : Vec F S1x768 .f32) : FVec F S196x768 .f32 :=
  addf (matmul dot_S196x768_S768x768_S196x768_1_0_0_1_n_n none (tokens x) w (constant S196x768 .f32 0x00000000#32))
    (broadcastTo S196x768 (shapeCast S1x768 b shapeCasts_S1x768_S1x768) broadcasts_S1x768_S196x768)

/-- The first layer before its maximum with zero, from queries and keys. -/
def layer1 (q : FVec F S197x768 .f32) (k : FVec F S196x768 .f32) (wa wb : Vec F S768x60 .f32) (b : Vec F S1x60 .f32) :
    FVec F S196x60 .f32 :=
  addf (addf
      (matmul dot_S196x768_S768x60_S196x60_1_0_0_1_n_n none
        (extractStridedSlice S196x768 ![1, 0] q slices_S197x768_o1_0_S196x768)
        (shapeCast S768x60 wa shapeCasts_S768x60_S768x60) (constant S196x60 .f32 0x00000000#32))
      (matmul dot_S196x768_S768x60_S196x60_1_0_0_1_n_n none k
        (shapeCast S768x60 wb shapeCasts_S768x60_S768x60) (constant S196x60 .f32 0x00000000#32)))
    (broadcastTo S196x60 (shapeCast S1x60 b shapeCasts_S1x60_S1x60) broadcasts_S1x60_S196x60)

/-- The second layer before its maximum with zero. -/
def layer2 (h : FVec F S196x60 .f32) (w : Vec F S60x60 .f32) (b : Vec F S1x60 .f32) : FVec F S196x60 .f32 :=
  addf (matmul dot_S196x60_S60x60_S196x60_1_0_0_1_n_n none
      (maximumf h (broadcast S196x60 (Scalar.ofBits .f32 0x00000000#32))) w (constant S196x60 .f32 0x00000000#32))
    (broadcastTo S196x60 (shapeCast S1x60 b shapeCasts_S1x60_S1x60) broadcasts_S1x60_S196x60)

/-- The two sampling coordinates of every row: the logistic of the third layer. -/
def coords (h : FVec F S196x60 .f32) (w : Vec F S60x2 .f32) (b : Vec F S1x2 .f32) : FVec F S196x2 .f32 :=
  logistic (addf (matmul dot_S196x60_S60x2_S196x2_1_0_0_1_n_n none
      (maximumf h (broadcast S196x60 (Scalar.ofBits .f32 0x00000000#32))) w (constant S196x2 .f32 0x00000000#32))
    (broadcastTo S196x2 (shapeCast S1x2 b shapeCasts_S1x2_S1x2) broadcasts_S1x2_S196x2))

/-- The column number of every cell of a 196 × 196 table. -/
def colNo : IVec S196x196 32 := iota .tc S196x196 32 [1] iota_S196x196_d1_w32

/-- The row number of every cell of a 196 × 196 table. -/
def rowNo : IVec S196x196 32 := iota .tc S196x196 32 [0] iota_S196x196_d0_w32

/-- One in the first 98 columns, zero in the others. -/
def firstHalf : FVec F S196x196 .f32 :=
  sitofp .f32 (extui 32 (cmpi .slt (muli (broadcast S196x196 2#32) colNo) (broadcast S196x196 196#32)) natLt_1_32)

/-- Zero in the first 98 columns, one in the others. -/
def secondHalf : FVec F S196x196 .f32 :=
  subf (broadcast S196x196 (Scalar.ofBits .f32 0x3F800000#32)) firstHalf

/-- One where the row number is the given one, zero elsewhere. -/
def rowIs (n : IVec S196x196 32) : FVec F S196x196 .f32 :=
  sitofp .f32 (extui 32 (cmpi .eq rowNo n) natLt_1_32)

/-- Picks from the first coordinates by the first table and from the second coordinates by the second, and scales the
    sum from [0, 1] to a place on the 14 × 14 grid. -/
def place (s : FVec F S196x2 .f32) (p p' : FVec F S196x196 .f32) : FVec F S1x196 .f32 :=
  mulf (subf (mulf (addf
      (addf
        (matmul dot_S196x1_S196x196_S1x196_0_0_1_1_n_n (some .fp32)
          (extractStridedSlice S196x1 ![0, 0] s slices_S196x2_o0_0_S196x1) p (constant S1x196 .f32 0x00000000#32))
        (matmul dot_S196x1_S196x196_S1x196_0_0_1_1_n_n (some .fp32)
          (extractStridedSlice S196x1 ![0, 1] s slices_S196x2_o0_1_S196x1) p' (constant S1x196 .f32 0x00000000#32)))
      (broadcast S1x196 (Scalar.ofBits .f32 0x3F800000#32)))
      (broadcast S1x196 (Scalar.ofBits .f32 0x41600000#32)))
      (broadcast S1x196 (Scalar.ofBits .f32 0x3F800000#32)))
    (broadcast S1x196 (Scalar.ofBits .f32 0x3F000000#32))

/-- The column each output position samples at. -/
def placeX (s : FVec F S196x2 .f32) : FVec F S1x196 .f32 :=
  place s (mulf firstHalf (rowIs (muli (broadcast S196x196 2#32) colNo)))
    (mulf secondHalf (rowIs (subi (muli (broadcast S196x196 2#32) colNo) (broadcast S196x196 196#32))))

/-- The row each output position samples at. -/
def placeY (s : FVec F S196x2 .f32) : FVec F S1x196 .f32 :=
  place s (mulf firstHalf (rowIs (addi (muli (broadcast S196x196 2#32) colNo) (broadcast S196x196 1#32))))
    (mulf secondHalf (rowIs (addi (subi (muli (broadcast S196x196 2#32) colNo) (broadcast S196x196 196#32))
      (broadcast S196x196 1#32))))

/-- One more than a place. -/
def next (p : FVec F S1x196 .f32) : FVec F S1x196 .f32 :=
  addf p (broadcast S1x196 (Scalar.ofBits .f32 0x3F800000#32))

/-- What is missing from one. -/
def rest (p : FVec F S1x196 .f32) : FVec F S1x196 .f32 :=
  subf (broadcast S1x196 (Scalar.ofBits .f32 0x3F800000#32)) p

/-- Whether the grid point is on the grid, as one or zero. -/
def onGrid (y x : IVec S1x196 32) : FVec F S1x196 .f32 :=
  sitofp .f32 (extui 32 (andi (andi (andi (cmpi .sge y (broadcast S1x196 0#32)) (cmpi .slt y (broadcast S1x196 14#32)))
    (cmpi .sge x (broadcast S1x196 0#32))) (cmpi .slt x (broadcast S1x196 14#32))) natLt_1_32)

/-- The table of one corner: at the row of the grid point (counted from row 88) the weight where the point is on the grid,
    zero in every other row. -/
def corner (w : FVec F S1x196 .f32) (y x : IVec S1x196 32) : FVec F S108x196 .f32 :=
  mulf
    (sitofp .f32 (extui 32 (cmpi .eq (iota .tc S108x196 32 [0] iota_S108x196_d0_w32)
      (broadcastTo S108x196 (subi (addi (muli y (broadcast S1x196 14#32)) x) (broadcast S1x196 88#32))
        broadcasts_S1x196_S108x196)) natLt_1_32))
    (broadcastTo S108x196 (mulf w (onGrid y x)) broadcasts_S1x196_S108x196)

/-- The four corners' tables summed: what each kept row gives to each output position. -/
def table (px py : FVec F S1x196 .f32) : FVec F S108x196 .f32 :=
  addf (addf (addf
    (corner (mulf (rest (subf py (floor py))) (rest (subf px (floor px)))) (fptosi 32 (floor py)) (fptosi 32 (floor px)))
    (corner (mulf (rest (subf py (floor py))) (subf px (floor px))) (fptosi 32 (floor py)) (fptosi 32 (next (floor px)))))
    (corner (mulf (subf py (floor py)) (rest (subf px (floor px)))) (fptosi 32 (next (floor py))) (fptosi 32 (floor px))))
    (corner (mulf (subf py (floor py)) (subf px (floor px))) (fptosi 32 (next (floor py))) (fptosi 32 (next (floor px))))

/-- The kept rows (from row 88 on) of keys and values side by side. -/
def kept (k v : FVec F S196x768 .f32) : FVec F S108x1536 .f32 :=
  concatenate S108x1536 1 [⟨S108x768, extractStridedSlice S108x768 ![88, 0] k slices_S196x768_o88_0_S108x768⟩,
    ⟨S108x768, extractStridedSlice S108x768 ![88, 0] v slices_S196x768_o88_0_S108x768⟩]
    concatenates_S108x768_S108x768_S108x1536_d1

/-- The sampled keys and values side by side. -/
def sampled (g : FVec F S108x196 .f32) (kv : FVec F S108x1536 .f32) : FVec F S196x1536 .f32 :=
  matmul dot_S108x196_S108x1536_S196x1536_0_0_1_1_n_n none (truncf .bf16 g bitsLt_bf16_f32)
    (truncf .bf16 kv bitsLt_bf16_f32) (constant S196x1536 .f32 0x00000000#32)

/-- A row of ones above the given rows. -/
def underOnes (s : FVec F S196x768 .f32) : FVec F S197x768 .f32 :=
  concatenate S197x768 0 [⟨S1x768, broadcast S1x768 (Scalar.ofBits .f32 0x3F800000#32)⟩, ⟨S196x768, s⟩]
    concatenates_S1x768_S196x768_S197x768_d0

/-- The gate of every row: the logistic of a hundredth of the row product of sampled keys and queries. -/
def gate (sk q : FVec F S197x768 .f32) : FVec F S197x1 .f32 :=
  logistic (mulf (broadcast S197x1 (Scalar.ofBits .f32 0x3C23D70A#32))
    (shapeCast S197x1 (multiReduction .add [1] S197 (mulf sk q) 0x00000000#32 reduces_S197x768_S197 (.inl rfl) rfl)
      shapeCasts_S197_S197x1))

/-- The gated rows of sampled values. -/
def gated (q : FVec F S197x768 .f32) (s : FVec F S196x1536 .f32) : FVec F S1x197x768 .f32 :=
  shapeCast S1x197x768
    (mulf (broadcastTo S197x768
        (gate (underOnes (extractStridedSlice S196x768 ![0, 0] s slices_S196x1536_o0_0_S196x768)) q)
        broadcasts_S197x1_S197x768)
      (underOnes (extractStridedSlice S196x768 ![0, 768] s slices_S196x1536_o0_768_S196x768)))
    shapeCasts_S197x768_S1x197x768

/-- The sampling coordinates of one batch element. -/
def batchCoords (x : Vec F S1x197x768 .f32) (wq : Vec F S768x768 .f32) (bq : Vec F S1x768 .f32)
    (wk : Vec F S768x768 .f32) (bk : Vec F S1x768 .f32) (wa wb : Vec F S768x60 .f32) (b1 : Vec F S1x60 .f32)
    (w2 : Vec F S60x60 .f32) (b2 : Vec F S1x60 .f32) (w3 : Vec F S60x2 .f32) (b3 : Vec F S1x2 .f32) : FVec F S196x2 .f32 :=
  coords (layer2 (layer1 (queries x wq bq) (keys x wk bk) wa wb b1) w2 b2) w3 b3

/-- The result of one batch element. -/
def batch (x : Vec F S1x197x768 .f32) (wq : Vec F S768x768 .f32) (bq : Vec F S1x768 .f32)
    (wk : Vec F S768x768 .f32) (bk : Vec F S1x768 .f32) (wv : Vec F S768x768 .f32) (bv : Vec F S1x768 .f32)
    (wa wb : Vec F S768x60 .f32) (b1 : Vec F S1x60 .f32) (w2 : Vec F S60x60 .f32) (b2 : Vec F S1x60 .f32)
    (w3 : Vec F S60x2 .f32) (b3 : Vec F S1x2 .f32) : FVec F S1x197x768 .f32 :=
  gated (queries x wq bq)
    (sampled (table (placeX (batchCoords x wq bq wk bk wa wb b1 w2 b2 w3 b3))
        (placeY (batchCoords x wq bq wk bk wa wb b1 w2 b2 w3 b3)))
      (kept (keys x wk bk) (keys x wv bv)))

end Cert.Batch

end
-- ==== Proof.Pieces.lean ====
/-
  What one grid point stores: eight batch elements, each at its own place, each the result of `batch`.
-/
module

public import proofs.«01_k».proof.Proof.Batch

@[expose] public section

noncomputable section

namespace Cert.Batch

open Cert.KernelIdeal Cert.KernelIdeal.Gen Idealize.ShloMosaic

variable {F : FTy → Type} [FloatOps F]

set_option maxRecDepth 16384 in
/-- The block a grid point writes is eight stores, each of the batch element read at the same place. -/
theorem out_pieces (x0 : Vec F S8x197x768 .f32) (x1 : Vec F S768x768 .f32) (x2 : Vec F S1x768 .f32)
    (x3 : Vec F S768x768 .f32) (x4 : Vec F S1x768 .f32) (x5 : Vec F S768x768 .f32) (x6 : Vec F S1x768 .f32)
    (x7 x8 : Vec F S768x60 .f32) (x9 : Vec F S1x60 .f32) (x10 : Vec F S60x60 .f32) (x11 : Vec F S1x60 .f32)
    (x12 : Vec F S60x2 .f32) (x13 : Vec F S1x2 .f32) :
    out0_14 x0 x1 x2 x3 x4 x5 x6 x7 x8 x9 x10 x11 x12 x13 = View.canon [
      ⟨r0_14, batch (View.ld x0 r0_14) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_13, batch (View.ld x0 r0_13) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_12, batch (View.ld x0 r0_12) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_11, batch (View.ld x0 r0_11) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_10, batch (View.ld x0 r0_10) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_9, batch (View.ld x0 r0_9) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_8, batch (View.ld x0 r0_8) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩,
      ⟨r0_0, batch (View.ld x0 r0_0) (View.ld x1 r0_1) (View.ld x2 r0_2) (View.ld x3 r0_1) (View.ld x4 r0_2) (View.ld x5 r0_1) (View.ld x6 r0_2) (View.ld x7 r0_3) (View.ld x8 r0_3) (View.ld x9 r0_4) (View.ld x10 r0_5) (View.ld x11 r0_4) (View.ld x12 r0_6) (View.ld x13 r0_7)⟩] := by
  rfl

end Cert.Batch

end
-- ==== Proof.Numbers.lean ====
/-
  Numbers that both programs meet: the printed constants, a place on the 14 × 14 grid with its cell and its rest,
  and comparison bits read as one or zero.
-/
module

public import Idealize.ShloMosaic.Lib.Pointwise
public import Idealize.ShloMosaic.Lib.IdealHost

@[expose] public section

noncomputable section

namespace Cert.Numbers

open Idealize.ShloMosaic

/-- The printed word of fourteen. -/
theorem fourteen : Ideal.ofBits .f32 1096810496#32 = ((14 : ℝ) : EReal) := by
  simp [Ideal.ofBits, Ideal.ieee, -EReal.coe_mul]; norm_num

/-- The printed word of one half. -/
theorem half : Ideal.ofBits .f32 1056964608#32 = ((1 / 2 : ℝ) : EReal) := by
  simp [Ideal.ofBits, Ideal.ieee, -EReal.coe_mul]; norm_num

/-- The printed word of two. -/
theorem two : Ideal.ofBits .f32 1073741824#32 = ((2 : ℝ) : EReal) := by
  simp [Ideal.ofBits, Ideal.ieee, -EReal.coe_mul]; norm_num

/-- A logistic is a real number from 0 to 1, whatever it is taken of. -/
theorem logistic_unit (x : EReal) : ∃ r : ℝ, 0 ≤ r ∧ r ≤ 1 ∧ Ideal.logistic x = (r : EReal) := by
  induction x with
  | bot => exact ⟨0, le_rfl, zero_le_one, by simp⟩
  | top => exact ⟨1, zero_le_one, le_rfl, by simp⟩
  | coe x =>
    have h := Real.exp_pos (-x)
    exact ⟨(1 + Real.exp (-x))⁻¹, by positivity, inv_le_one_of_one_le₀ (by linarith), Ideal.logistic_coe _⟩

/-! ## A place on the grid -/

/-- Where on the grid a coordinate from 0 to 1 lies. -/
def spot (r : ℝ) : ℝ := ((r + 1) * 14 - 1) / 2

/-- The cell below it. -/
def cell (r : ℝ) : ℕ := ⌊spot r⌋₊

/-- How far it is past that cell. -/
def past (r : ℝ) : ℝ := spot r - cell r

variable {r : ℝ}

theorem spot_nonneg (h : 0 ≤ r) : 0 ≤ spot r := by unfold spot; linarith

theorem six_le_cell (h : 0 ≤ r) : 6 ≤ cell r :=
  Nat.le_floor (by unfold spot; push_cast; linarith)

theorem cell_le (h : 0 ≤ r) (h1 : r ≤ 1) : cell r ≤ 13 := by
  have := (Nat.floor_lt (spot_nonneg h)).2 (show spot r < ((14 : ℕ) : ℝ) by unfold spot; push_cast; linarith)
  unfold cell; omega

theorem past_nonneg (h : 0 ≤ r) : 0 ≤ past r := sub_nonneg.2 (Nat.floor_le (spot_nonneg h))

theorem past_le (r : ℝ) : past r ≤ 1 := by
  have := Nat.lt_floor_add_one (spot r)
  unfold past cell; linarith

/-- Rounding a place down gives its cell. -/
theorem floor_spot (h : 0 ≤ r) : Ideal.liftRound Int.floor ((spot r : ℝ) : EReal) = ((cell r : ℝ) : EReal) := by
  rw [Ideal.liftRound_coe, cell, natCast_floor_eq_intCast_floor (spot_nonneg h)]

/-- Read as a word, a small natural number is its word. -/
theorem fptosi_nat (n : ℕ) (h : n < 2 ^ 31) : Ideal.fptosi 32 ((n : ℝ) : EReal) = BitVec.ofNat 32 n := by
  unfold Ideal.fptosi
  rw [Ideal.toIntClamped_coe, if_pos (Nat.cast_nonneg n), Int.floor_natCast]
  have : max (-((2 ^ (32 - 1) : ℕ) : ℤ)) (min (((2 ^ (32 - 1) : ℕ) : ℤ) - 1) (n : ℤ)) = (n : ℤ) := by
    norm_num; omega
  rw [this, BitVec.ofInt_natCast]

/-- A comparison bit, widened and read as a number, is one or zero. -/
theorem sitofp_bit (b : Bool) :
    (FloatOps.sitofp .f32 (BitVec.setWidth 32 (BitVec.ofBool b)) : Ideal .f32) = if b = true then (1 : EReal) else 0 := by
  cases b <;> simp [FloatOps.sitofp]

/-- A comparison bit read as a number is one or zero. -/
theorem uitofp_bit (b : Bool) :
    (FloatOps.uitofp .f32 (BitVec.ofBool b) : Ideal .f32) = if b = true then (1 : EReal) else 0 := by
  cases b <;> simp [FloatOps.uitofp]

/-- The four comparisons that ask whether a cell is on the grid, for cells up to 14. -/
theorem onGrid_bit {a b : ℕ} (ha : a ≤ 14) (hb : b ≤ 14) :
    IntOp.andi (IntOp.andi (IntOp.andi (IntOp.cmpi .sge (BitVec.ofNat 32 a) 0#32) (IntOp.cmpi .slt (BitVec.ofNat 32 a) 14#32))
      (IntOp.cmpi .sge (BitVec.ofNat 32 b) 0#32)) (IntOp.cmpi .slt (BitVec.ofNat 32 b) 14#32)
      = BitVec.ofBool (decide (a < 14 ∧ b < 14)) := by
  have key : ∀ a b : Fin 15,
      IntOp.andi (IntOp.andi (IntOp.andi (IntOp.cmpi .sge (BitVec.ofNat 32 a) 0#32) (IntOp.cmpi .slt (BitVec.ofNat 32 a) 14#32))
        (IntOp.cmpi .sge (BitVec.ofNat 32 b) 0#32)) (IntOp.cmpi .slt (BitVec.ofNat 32 b) 14#32)
        = BitVec.ofBool (decide (a.val < 14 ∧ b.val < 14)) := by decide
  exact key ⟨a, by omega⟩ ⟨b, by omega⟩

/-- The comparison of a row number with a cell's row, counted from row 88. -/
theorem row_bit {t a b : ℕ} (ht : t < 108) (ha : a ≤ 14) (ha' : 6 ≤ a) (hb : b ≤ 14) (hb' : 6 ≤ b) :
    IntOp.cmpi .eq (BitVec.ofNat 32 t)
      (IntOp.subi (IntOp.addi (IntOp.muli (BitVec.ofNat 32 a) 14#32) (BitVec.ofNat 32 b)) 88#32)
      = BitVec.ofBool (decide (t + 88 = a * 14 + b)) := by
  have : (BitVec.ofNat 32 t = BitVec.ofNat 32 a * 14#32 + BitVec.ofNat 32 b - 88#32) ↔ t + 88 = a * 14 + b := by
    constructor
    · intro h
      have := congrArg BitVec.toNat h
      simp only [BitVec.toNat_sub, BitVec.toNat_add, BitVec.toNat_mul, BitVec.toNat_ofNat] at this
      omega
    · intro h
      apply BitVec.eq_of_toNat_eq
      simp only [BitVec.toNat_sub, BitVec.toNat_add, BitVec.toNat_mul, BitVec.toNat_ofNat]
      omega
  show BitVec.ofBool (BitVec.ofNat 32 t == BitVec.ofNat 32 a * 14#32 + BitVec.ofNat 32 b - 88#32) = _
  congr 1
  rw [Bool.eq_iff_iff, beq_iff_eq, this, decide_eq_true_iff]

/-! ## Sampling between four pixels -/

/-- The row of the pixel in cell `(a, b)`, zero off the grid. -/
def pixelAt (p : Fin 196 → EReal) (a b : ℕ) : EReal :=
  if h : a < 14 ∧ b < 14 then p ⟨a * 14 + b, by omega⟩ else 0

/-- Rows sampled at column coordinate `rx` and row coordinate `ry`: the four pixels round the place, each weighted by how
    near it is. -/
def between (p : Fin 196 → EReal) (rx ry : ℝ) : EReal :=
  pixelAt p (cell ry) (cell rx) * (((1 - past ry) * (1 - past rx) : ℝ) : EReal)
    + pixelAt p (cell ry) (cell rx + 1) * (((1 - past ry) * past rx : ℝ) : EReal)
    + pixelAt p (cell ry + 1) (cell rx) * ((past ry * (1 - past rx) : ℝ) : EReal)
    + pixelAt p (cell ry + 1) (cell rx + 1) * ((past ry * past rx : ℝ) : EReal)

/-- The coordinates of all 196 rows in one list: all first coordinates, then all second ones. -/
def listed (u : Fin 196 → Fin 2 → ℝ) (n : Fin 392) : ℝ :=
  if h : n.val < 196 then u ⟨n.val, h⟩ 0 else u ⟨n.val - 196, by omega⟩ 1

/-- The column coordinate of output position `o`: the list's pairs read in order, the first of the pair. -/
def coordX (u : Fin 196 → Fin 2 → ℝ) (o : Fin 196) : ℝ := listed u ⟨2 * o.val, by omega⟩

/-- The row coordinate of output position `o`: the second of the pair. -/
def coordY (u : Fin 196 → Fin 2 → ℝ) (o : Fin 196) : ℝ := listed u ⟨2 * o.val + 1, by omega⟩

/-- Coordinates that are all from 0 to 1 are so in the list. -/
theorem listed_unit {u : Fin 196 → Fin 2 → ℝ} (hu : ∀ t c, 0 ≤ u t c ∧ u t c ≤ 1) (n : Fin 392) :
    0 ≤ listed u n ∧ listed u n ≤ 1 := by
  unfold listed; split <;> exact hu _ _

end Cert.Numbers

end
-- ==== Proof.BatchSample.lean ====
/-
  What the kernel's sampling tables hold, and what the product with them gives: rows sampled between four pixels.
-/
module

public import proofs.«01_k».proof.Proof.Batch
public import proofs.«01_k».proof.Proof.Numbers

@[expose] public section

noncomputable section

namespace Cert.Batch

open Cert.KernelIdeal Cert.KernelIdeal.Gen Cert.Numbers Idealize.ShloMosaic

/-- Words of twice a column number compared with 196. -/
theorem first_bit (o : Fin 196) :
    IntOp.cmpi .slt (IntOp.muli 2#32 (BitVec.ofNat 32 o.val)) 196#32 = BitVec.ofBool (decide (2 * o.val < 196)) := by
  revert o; decide +kernel

/-- One in the first 98 columns, zero in the others. -/
theorem firstHalf_apply (t o : Fin 196) :
    firstHalf (F := Ideal) (ix2 t o) = if 2 * o.val < 196 then 1 else 0 := by
  pointwise [firstHalf, colNo]
  rw [first_bit, sitofp_bit]; simp

/-- Zero in the first 98 columns, one in the others. -/
theorem secondHalf_apply (t o : Fin 196) :
    secondHalf (F := Ideal) (ix2 t o) = if 2 * o.val < 196 then 0 else 1 := by
  pointwise [secondHalf]
  rw [firstHalf_apply]
  split
  · rw [← EReal.coe_one, ← EReal.coe_sub]; simp
  · simp

/-- One where the row number is the given word, zero elsewhere. -/
theorem rowIs_apply (n : IVec S196x196 32) (t o : Fin 196) :
    rowIs (F := Ideal) n (ix2 t o) = if BitVec.ofNat 32 t.val = n (ix2 t o) then 1 else 0 := by
  pointwise [rowIs, rowNo]
  exact (sitofp_bit (BitVec.ofNat 32 t.val == n (ix2 t o))).trans (by simp)

/-- A table with a one in the first half where the row number is the word of `n`. -/
theorem first_apply (w : IVec S196x196 32) (t o : Fin 196) (n : ℕ) (hw : w (ix2 t o) = BitVec.ofNat 32 n) (hn : n < 392)
    (ho : n < 196 ↔ 2 * o.val < 196) :
    mulf firstHalf (rowIs (F := Ideal) w) (ix2 t o) = if t.val = n then 1 else 0 := by
  pointwise
  rw [firstHalf_apply, rowIs_apply, hw]
  have : BitVec.ofNat 32 t.val = BitVec.ofNat 32 n ↔ t.val = n := by
    rw [← BitVec.toNat_inj, BitVec.toNat_ofNat, BitVec.toNat_ofNat]; omega
  rw [if_congr this rfl rfl]
  by_cases h : 2 * o.val < 196
  · rw [if_pos h, one_mul]
  · rw [if_neg h, zero_mul, if_neg (by omega)]

/-- A table with a one in the second half where the row number is the word of `n` less 196. -/
theorem second_apply (w : IVec S196x196 32) (t o : Fin 196) (n : ℕ)
    (hw : w (ix2 t o) = BitVec.ofNat 32 n - 196#32) (hn : n < 392) (ho : n < 196 ↔ 2 * o.val < 196) :
    mulf secondHalf (rowIs (F := Ideal) w) (ix2 t o) = if t.val + 196 = n then 1 else 0 := by
  pointwise
  rw [secondHalf_apply, rowIs_apply, hw]
  have : BitVec.ofNat 32 t.val = BitVec.ofNat 32 n - 196#32 ↔ t.val + 196 = n := by
    rw [← BitVec.toNat_inj, BitVec.toNat_sub, BitVec.toNat_ofNat, BitVec.toNat_ofNat, BitVec.toNat_ofNat]; omega
  rw [if_congr this rfl rfl]
  by_cases h : 2 * o.val < 196
  · rw [if_pos h, zero_mul, if_neg (by omega)]
  · rw [if_neg h, one_mul]

variable {s : FVec Ideal S196x2 .f32} {u : Fin 196 → Fin 2 → ℝ}

/-- Two tables that pick entry `n` of the list of coordinates give its place on the grid. -/
theorem place_apply (hs : ∀ t c, s (ix2 t c) = ((u t c : ℝ) : EReal)) (p p' : FVec Ideal S196x196 .f32) (o : Fin 196)
    (n : Fin 392) (hp : ∀ t : Fin 196, p (ix2 t o) = if t.val = n.val then (1 : EReal) else 0)
    (hp' : ∀ t : Fin 196, p' (ix2 t o) = if t.val + 196 = n.val then (1 : EReal) else 0) :
    place s p p' (ix2 0 o) = ((spot (listed u n) : ℝ) : EReal) := by
  pointwise [place]
  have key : (∑ t : Fin 196, s (ix2 t 0) * p (ix2 t o)) + ∑ t : Fin 196, s (ix2 t 1) * p' (ix2 t o)
      = ((listed u n : ℝ) : EReal) := by
    simp only [hp, hp', hs, mul_ite, mul_one, mul_zero]
    unfold listed
    split
    · next h =>
      rw [Finset.sum_eq_single (⟨n.val, h⟩ : Fin 196), if_pos rfl, Finset.sum_eq_zero, add_zero]
      · intro t _; rw [if_neg (by omega)]
      · intro t _ ht; rw [if_neg (fun e => ht (Fin.ext e))]
      · intro h; exact absurd (Finset.mem_univ _) h
    · next h =>
      rw [Finset.sum_eq_zero, zero_add, Finset.sum_eq_single (⟨n.val - 196, by omega⟩ : Fin 196), if_pos (by simp; omega)]
      · intro t _ ht; rw [if_neg (fun e => ht (Fin.ext (by simp; omega)))]
      · intro h; exact absurd (Finset.mem_univ _) h
      · intro t _; rw [if_neg (by have := t.isLt; omega)]
  rw [key, fourteen, half, ← EReal.coe_one, ← EReal.coe_add, ← EReal.coe_mul, ← EReal.coe_sub, ← EReal.coe_mul]
  congr 1; unfold spot; ring

/-- The column each output position samples at. -/
theorem placeX_apply (hs : ∀ t c, s (ix2 t c) = ((u t c : ℝ) : EReal)) (o : Fin 196) :
    placeX s (ix2 0 o) = ((spot (coordX u o) : ℝ) : EReal) := by
  unfold placeX coordX
  refine place_apply hs _ _ o ⟨2 * o.val, by omega⟩ (fun t => ?_) (fun t => ?_)
  · refine first_apply _ t o (2 * o.val) ?_ (by omega) Iff.rfl
    pointwise [colNo]
    show 2#32 * _ = _
    apply BitVec.eq_of_toNat_eq; simp
  · refine second_apply _ t o (2 * o.val) ?_ (by omega) Iff.rfl
    pointwise [colNo]
    show 2#32 * _ - _ = _
    congr 1
    apply BitVec.eq_of_toNat_eq; simp

/-- The row each output position samples at. -/
theorem placeY_apply (hs : ∀ t c, s (ix2 t c) = ((u t c : ℝ) : EReal)) (o : Fin 196) :
    placeY s (ix2 0 o) = ((spot (coordY u o) : ℝ) : EReal) := by
  unfold placeY coordY
  refine place_apply hs _ _ o ⟨2 * o.val + 1, by omega⟩ (fun t => ?_) (fun t => ?_)
  · refine first_apply _ t o (2 * o.val + 1) ?_ (by omega) (by omega)
    pointwise [colNo]
    show 2#32 * _ + 1#32 = _
    apply BitVec.eq_of_toNat_eq; simp
  · refine second_apply _ t o (2 * o.val + 1) ?_ (by omega) (by omega)
    pointwise [colNo]
    show 2#32 * _ - _ + 1#32 = _
    apply BitVec.eq_of_toNat_eq
    simp only [BitVec.toNat_sub, BitVec.toNat_add, BitVec.toNat_mul, BitVec.toNat_ofNat]
    omega

/-- The weight a corner's table has in row `t`. -/
def hit (t a b : ℕ) (w : ℝ) : EReal := if t + 88 = a * 14 + b ∧ a < 14 ∧ b < 14 then (w : EReal) else 0

theorem hit_nonneg {t a b : ℕ} {w : ℝ} (hw : 0 ≤ w) : 0 ≤ hit t a b w := by
  unfold hit; split
  · exact_mod_cast hw
  · exact le_rfl

/-- A corner's table holds its weight at the row of its pixel, when the pixel is on the grid. -/
theorem corner_apply {w : FVec Ideal S1x196 .f32} {y x : IVec S1x196 32} (t : Fin 108) (o : Fin 196) {a b : ℕ} {wr : ℝ}
    (hw : w (ix2 0 o) = (wr : EReal)) (hy : y (ix2 0 o) = BitVec.ofNat 32 a) (hx : x (ix2 0 o) = BitVec.ofNat 32 b)
    (ha : a ≤ 14) (ha' : 6 ≤ a) (hb : b ≤ 14) (hb' : 6 ≤ b) :
    corner w y x (ix2 t o) = hit t.val a b wr := by
  pointwise [corner, onGrid]
  rw [hw, hy, hx, onGrid_bit ha hb, row_bit t.isLt ha ha' hb hb', sitofp_bit, sitofp_bit]
  unfold hit
  by_cases h : t.val + 88 = a * 14 + b
  · by_cases h' : a < 14 ∧ b < 14 <;> simp [h, h']
  · simp [h]

/-- A corner's table times rows from row 88 on is the weight times the pixel's row. -/
theorem sum_hit (p : Fin 196 → EReal) {a b : ℕ} (w : ℝ) (ha' : 6 ≤ a) (hb' : 6 ≤ b) :
    ∑ t : Fin 108, hit t.val a b w * p ⟨88 + t.val, by omega⟩ = pixelAt p a b * (w : EReal) := by
  unfold pixelAt
  split
  · next h =>
    rw [Finset.sum_eq_single (⟨a * 14 + b - 88, by omega⟩ : Fin 108)]
    · unfold hit
      rw [if_pos ⟨by simp; omega, h⟩, mul_comm]
      congr 2
      exact Fin.ext (by simp; omega)
    · intro t _ ht
      unfold hit
      rw [if_neg (fun e => ht (Fin.ext (by simp; omega))), zero_mul]
    · intro h; exact absurd (Finset.mem_univ _) h
  · next h =>
    rw [zero_mul]
    refine Finset.sum_eq_zero fun t _ => ?_
    unfold hit
    rw [if_neg (fun e => h e.2), zero_mul]

/-- The four tables summed, times rows from row 88 on, are the rows sampled between the four pixels. -/
theorem sum_table {px py : FVec Ideal S1x196 .f32} {o : Fin 196} {rx ry : ℝ} (hx : 0 ≤ rx ∧ rx ≤ 1) (hy : 0 ≤ ry ∧ ry ≤ 1)
    (hpx : px (ix2 0 o) = ((spot rx : ℝ) : EReal)) (hpy : py (ix2 0 o) = ((spot ry : ℝ) : EReal)) (p : Fin 196 → EReal) :
    ∑ t : Fin 108, table px py (ix2 t o) * p ⟨88 + t.val, by omega⟩ = between p rx ry := by
  have cx := six_le_cell hx.1
  have cy := six_le_cell hy.1
  have cx' := cell_le hx.1 hx.2
  have cy' := cell_le hy.1 hy.2
  have fx : floor px (ix2 0 o) = ((cell rx : ℝ) : EReal) := by pointwise; rw [hpx, floor_spot hx.1]
  have fy : floor py (ix2 0 o) = ((cell ry : ℝ) : EReal) := by pointwise; rw [hpy, floor_spot hy.1]
  have gx : subf px (floor px) (ix2 0 o) = ((past rx : ℝ) : EReal) := by
    show px (ix2 0 o) - floor px (ix2 0 o) = _
    rw [fx, hpx, ← EReal.coe_sub]; rfl
  have gy : subf py (floor py) (ix2 0 o) = ((past ry : ℝ) : EReal) := by
    show py (ix2 0 o) - floor py (ix2 0 o) = _
    rw [fy, hpy, ← EReal.coe_sub]; rfl
  have kx : rest (subf px (floor px)) (ix2 0 o) = ((1 - past rx : ℝ) : EReal) := by
    pointwise [rest]
    show 1 - subf px (floor px) (ix2 0 o) = _
    rw [gx, ← EReal.coe_one, ← EReal.coe_sub]
  have ky : rest (subf py (floor py)) (ix2 0 o) = ((1 - past ry : ℝ) : EReal) := by
    pointwise [rest]
    show 1 - subf py (floor py) (ix2 0 o) = _
    rw [gy, ← EReal.coe_one, ← EReal.coe_sub]
  have nx : next (floor px) (ix2 0 o) = (((cell rx + 1 : ℕ) : ℝ) : EReal) := by
    pointwise [next]
    show floor px (ix2 0 o) + 1 = _
    rw [fx]; norm_cast
  have ny : next (floor py) (ix2 0 o) = (((cell ry + 1 : ℕ) : ℝ) : EReal) := by
    pointwise [next]
    show floor py (ix2 0 o) + 1 = _
    rw [fy]; norm_cast
  have word : ∀ (v : FVec Ideal S1x196 .f32) (n : ℕ), v (ix2 0 o) = ((n : ℝ) : EReal) → n ≤ 14 →
      fptosi 32 v (ix2 0 o) = BitVec.ofNat 32 n := fun v n hv hn =>
    (congrArg (Ideal.fptosi 32) hv).trans (fptosi_nat n (by omega))
  have prod : ∀ (v w : FVec Ideal S1x196 .f32) (a b : ℝ), v (ix2 0 o) = (a : EReal) → w (ix2 0 o) = (b : EReal) →
      mulf v w (ix2 0 o) = ((a * b : ℝ) : EReal) := fun v w a b hv hw => by
    show v (ix2 0 o) * w (ix2 0 o) = _
    rw [hv, hw, EReal.coe_mul]
  have px0 := past_nonneg hx.1
  have py0 := past_nonneg hy.1
  have px1 := sub_nonneg.2 (past_le rx)
  have py1 := sub_nonneg.2 (past_le ry)
  have term : ∀ t : Fin 108, table px py (ix2 t o)
      = hit t.val (cell ry) (cell rx) ((1 - past ry) * (1 - past rx))
        + hit t.val (cell ry) (cell rx + 1) ((1 - past ry) * past rx)
        + hit t.val (cell ry + 1) (cell rx) (past ry * (1 - past rx))
        + hit t.val (cell ry + 1) (cell rx + 1) (past ry * past rx) := fun t => by
    pointwise [table]
    rw [corner_apply t o (prod _ _ _ _ ky kx) (word _ _ fy (by omega)) (word _ _ fx (by omega)) (by omega) cy (by omega) cx,
      corner_apply t o (prod _ _ _ _ ky gx) (word _ _ fy (by omega)) (word _ _ nx (by omega)) (by omega) cy (by omega)
        (by omega),
      corner_apply t o (prod _ _ _ _ gy kx) (word _ _ ny (by omega)) (word _ _ fx (by omega)) (by omega) (by omega) (by omega)
        cx,
      corner_apply t o (prod _ _ _ _ gy gx) (word _ _ ny (by omega)) (word _ _ nx (by omega)) (by omega) (by omega) (by omega)
        (by omega)]
  have split : ∀ t : Fin 108, table px py (ix2 t o) * p ⟨88 + t.val, by omega⟩
      = hit t.val (cell ry) (cell rx) ((1 - past ry) * (1 - past rx)) * p ⟨88 + t.val, by omega⟩
        + hit t.val (cell ry) (cell rx + 1) ((1 - past ry) * past rx) * p ⟨88 + t.val, by omega⟩
        + hit t.val (cell ry + 1) (cell rx) (past ry * (1 - past rx)) * p ⟨88 + t.val, by omega⟩
        + hit t.val (cell ry + 1) (cell rx + 1) (past ry * past rx) * p ⟨88 + t.val, by omega⟩ := fun t => by
    have h1 := hit_nonneg (t := t.val) (a := cell ry) (b := cell rx) (mul_nonneg py1 px1)
    have h2 := hit_nonneg (t := t.val) (a := cell ry) (b := cell rx + 1) (mul_nonneg py1 px0)
    have h3 := hit_nonneg (t := t.val) (a := cell ry + 1) (b := cell rx) (mul_nonneg py0 px1)
    have h4 := hit_nonneg (t := t.val) (a := cell ry + 1) (b := cell rx + 1) (mul_nonneg py0 px0)
    rw [term t, EReal.right_distrib_of_nonneg (add_nonneg (add_nonneg h1 h2) h3) h4,
      EReal.right_distrib_of_nonneg (add_nonneg h1 h2) h3, EReal.right_distrib_of_nonneg h1 h2]
  rw [Finset.sum_congr rfl fun t _ => split t, Finset.sum_add_distrib, Finset.sum_add_distrib, Finset.sum_add_distrib,
    sum_hit p _ cy cx, sum_hit p _ cy (by omega), sum_hit p _ (by omega) cx, sum_hit p _ (by omega) (by omega)]
  rfl

/-- The sampled keys: each output position's row of keys between four pixels. -/
theorem sampled_keys (hs : ∀ t c, s (ix2 t c) = ((u t c : ℝ) : EReal)) (hu : ∀ t c, 0 ≤ u t c ∧ u t c ≤ 1)
    (k v : FVec Ideal S196x768 .f32) (o : Fin 196) (j : Fin 768) :
    sampled (table (placeX s) (placeY s)) (kept k v) (ix2 o ⟨j.val, by omega⟩)
      = between (fun i => k (ix2 i j)) (coordX u o) (coordY u o) := by
  refine Eq.trans ?_ (sum_table (listed_unit hu _) (listed_unit hu _) (placeX_apply hs o) (placeY_apply hs o)
    fun i => k (ix2 i j))
  pointwise [sampled, kept]

/-- The sampled values: each output position's row of values between four pixels. -/
theorem sampled_values (hs : ∀ t c, s (ix2 t c) = ((u t c : ℝ) : EReal)) (hu : ∀ t c, 0 ≤ u t c ∧ u t c ≤ 1)
    (k v : FVec Ideal S196x768 .f32) (o : Fin 196) (j : Fin 768) :
    sampled (table (placeX s) (placeY s)) (kept k v) (ix2 o ⟨768 + j.val, by omega⟩)
      = between (fun i => v (ix2 i j)) (coordX u o) (coordY u o) := by
  refine Eq.trans ?_ (sum_table (listed_unit hu _) (listed_unit hu _) (placeX_apply hs o) (placeY_apply hs o)
    fun i => v (ix2 i j))
  pointwise [sampled, kept]

end Cert.Batch

end
-- ==== Proof.RefStages.lean ====
/-
  The reference, stage by stage, in its own host operations, over all 64 batch elements at once.
-/
module

public import proofs.«01_k».proof.Proof.Gen.ReferenceIdeal

@[expose] public section

noncomputable section

namespace Cert.RefStages

open Cert.ReferenceIdeal Cert.ReferenceIdeal.Gen Idealize.ShloMosaic

variable {F : FTy → Type} [FloatOps F]

/-- Every row times the weights, plus the bias. -/
def linear (x : FVec F S64x197x768 .f32) (w : FVec F S768x768 .f32) (b : FVec F S768 .f32) : FVec F S64x197x768 .f32 :=
  addf (Host.dotGeneral dot_S64x197x768_S768x768_S64x197x768_2_0_01_1_n_n none x w)
    (broadcastInDim S64x197x768 ![0, 1, 2] bcast_S1x1x768_S64x197x768_0_1_2
      (broadcastInDim S1x1x768 ![2] bcast_S768_S1x1x768_2 b))

/-- All rows but the first. -/
def tokens (x : FVec F S64x197x768 .f32) : FVec F S64x196x768 .f32 :=
  extractStridedSlice S64x196x768 ![0, 1, 0] x slices_S64x197x768_S64x196x768_0_1_0

/-- The 196 rows laid out as a 14 × 14 image, the 768 channels before it. -/
def image (p : FVec F S64x196x768 .f32) : FVec F S64x768x14x14 .f32 :=
  shapeCast _ (transpose S64x768x196 [0, 2, 1] p transposes_S64x196x768_S64x768x196_0_2_1)
    shapeCasts_S64x768x196_S64x768x14x14

/-- The first layer before its maximum with zero, from queries and keys side by side. -/
def layer1 (q k : FVec F S64x196x768 .f32) (w : FVec F S1536x60 .f32) (b : FVec F S60 .f32) : FVec F S64x196x60 .f32 :=
  addf (Host.dotGeneral dot_S64x196x1536_S1536x60_S64x196x60_2_0_01_1_n_n none
      (concatenate S64x196x1536 2 [⟨S64x196x768, q⟩, ⟨S64x196x768, k⟩]
        concatenates_S64x196x768_S64x196x768_S64x196x1536_d2) w)
    (broadcastInDim S64x196x60 ![0, 1, 2] bcast_S1x1x60_S64x196x60_0_1_2
      (broadcastInDim S1x1x60 ![2] bcast_S60_S1x1x60_2 b))

/-- The second layer before its maximum with zero. -/
def layer2 (h : FVec F S64x196x60 .f32) (w : FVec F S60x60 .f32) (b : FVec F S60 .f32) : FVec F S64x196x60 .f32 :=
  addf (Host.dotGeneral dot_S64x196x60_S60x60_S64x196x60_2_0_01_1_n_n none
      (maximumf h (broadcastInDim S64x196x60 ![] bcast_S_S64x196x60 (constant S_ .f32 0x00000000#32))) w)
    (broadcastInDim S64x196x60 ![0, 1, 2] bcast_S1x1x60_S64x196x60_0_1_2
      (broadcastInDim S1x1x60 ![2] bcast_S60_S1x1x60_2 b))

/-- The two sampling coordinates of every row: the logistic of the third layer, written out. -/
def coords (h : FVec F S64x196x60 .f32) (w : FVec F S60x2 .f32) (b : FVec F S2 .f32) : FVec F S64x196x2 .f32 :=
  Host.divf (broadcastInDim S64x196x2 ![] bcast_S_S64x196x2 (constant S_ .f32 0x3F800000#32))
    (addf (broadcastInDim S64x196x2 ![] bcast_S_S64x196x2 (constant S_ .f32 0x3F800000#32))
      (Host.exp (Host.negf (addf (Host.dotGeneral dot_S64x196x60_S60x2_S64x196x2_2_0_01_1_n_n none
          (maximumf h (broadcastInDim S64x196x60 ![] bcast_S_S64x196x60 (constant S_ .f32 0x00000000#32))) w)
        (broadcastInDim S64x196x2 ![0, 1, 2] bcast_S1x1x2_S64x196x2_0_1_2
          (broadcastInDim S1x1x2 ![2] bcast_S2_S1x1x2_2 b))))))

/-- All first coordinates, then all second coordinates, cut into a 14 × 14 grid of pairs. -/
def grid (s : FVec F S64x196x2 .f32) : FVec F S64x14x14x2 .f32 :=
  shapeCast _ (concatenate S64x392x1 1
      [⟨S64x196x1, extractStridedSlice S64x196x1 ![0, 0, 0] s slices_S64x196x2_S64x196x1_0_0_0⟩,
       ⟨S64x196x1, extractStridedSlice S64x196x1 ![0, 0, 1] s slices_S64x196x2_S64x196x1_0_0_1⟩]
      concatenates_S64x196x1_S64x196x1_S64x392x1_d1) shapeCasts_S64x392x1_S64x14x14x2

/-- A number in every cell of the grid. -/
def num (b : BitVec 32) : FVec F S64x14x14 .f32 :=
  broadcastInDim S64x14x14 ![] bcast_S_S64x14x14 (constant S_ .f32 b)

/-- A word in every cell of the grid. -/
def word (b : BitVec 32) : IVec S64x14x14 32 :=
  broadcastInDim S64x14x14 ![] bcast_S_S64x14x14 (constantI S_ 32 b)

/-- A coordinate scaled from [0, 1] to a place on the 14 × 14 grid. -/
def place (g : FVec F S64x14x14 .f32) : FVec F S64x14x14 .f32 :=
  Host.divf (subf (mulf (addf g (num 0x3F800000#32)) (num 0x41600000#32)) (num 0x3F800000#32)) (num 0x40000000#32)

/-- The column each grid cell samples at. -/
def placeX (g : FVec F S64x14x14x2 .f32) : FVec F S64x14x14 .f32 :=
  place (shapeCast _ (extractStridedSlice S64x14x14x1 ![0, 0, 0, 0] g slices_S64x14x14x2_S64x14x14x1_0_0_0_0)
    shapeCasts_S64x14x14x1_S64x14x14)

/-- The row each grid cell samples at. -/
def placeY (g : FVec F S64x14x14x2 .f32) : FVec F S64x14x14 .f32 :=
  place (shapeCast _ (extractStridedSlice S64x14x14x1 ![0, 0, 0, 1] g slices_S64x14x14x2_S64x14x14x1_0_0_0_1)
    shapeCasts_S64x14x14x1_S64x14x14)

/-- A word brought between 0 and 13. -/
def clip (i : IVec S64x14x14 32) : IVec S64x14x14 32 :=
  minsi (broadcastInDim S64x14x14 ![] bcast_S_S64x14x14 (id (constantI S_ 32 13#32)))
    (maxsi (broadcastInDim S64x14x14 ![] bcast_S_S64x14x14 (id (constantI S_ 32 0#32))) i)

/-- A word below zero counted from the end of 14. -/
def wrap (i : IVec S64x14x14 32) : IVec S64x14x14 32 :=
  select (cmpi .slt i (word 0#32)) (addi i (word 14#32)) i

/-- One column of the table of indices. -/
def column (i : IVec S64x14x14 32) : IVec S64x14x14x1 32 :=
  broadcastInDim S64x14x14x1 ![0, 1, 2] bcast_S64x14x14_S64x14x14x1_0_1_2 i

/-- The number of every batch element. -/
def batchNo : IVec S64x1x1 32 := broadcastInDim S64x1x1 ![0] bcast_S64_S64x1x1_0 (iotaInDim S64 32 0)

/-- The number of every batch element in every grid cell. -/
def batchIdx : IVec S64x14x14 32 :=
  broadcastInDim S64x14x14 ![0, 1, 2] bcast_S64x1x1_S64x14x14_0_1_2
    (select (cmpi .slt batchNo (broadcastInDim S64x1x1 ![] bcast_S_S64x1x1 (constantI S_ 32 0#32)))
      (addi batchNo (broadcastInDim S64x1x1 ![] bcast_S_S64x1x1 (constantI S_ 32 64#32))) batchNo)

/-- Batch element, row and column of the pixel each grid cell reads. -/
def pixel (y x : IVec S64x14x14 32) : IVec S64x14x14x3 32 :=
  concatenate S64x14x14x3 3 [⟨S64x14x14x1, column batchIdx⟩, ⟨S64x14x14x1, column (wrap (clip y))⟩,
    ⟨S64x14x14x1, column (wrap (clip x))⟩]
    concatenates_S64x14x14x1_S64x14x14x1_S64x14x14x1_S64x14x14x3_d3

/-- Whether the grid point is on the grid. -/
def onGrid (y x : IVec S64x14x14 32) : IVec S64x14x14 1 :=
  andi (andi (andi (cmpi .sge y (word 0#32)) (cmpi .slt y (word 14#32))) (cmpi .sge x (word 0#32))) (cmpi .slt x (word 14#32))

/-- What one corner gives: the pixel's channels, zero off the grid, times the weight. -/
def corner (im : FVec F S64x768x14x14 .f32) (y x : IVec S64x14x14 32) (w : FVec F S64x14x14 .f32) :
    FVec F S64x14x14x768 .f32 :=
  mulf (mulf (Host.gather gather_S64x768x14x14_S64x14x14x3_S64x14x14x768_3_023_n_n_023_3_176811 im (pixel y x))
      (broadcastInDim S64x14x14x768 ![0, 1, 2, 3] bcast_S64x14x14x1_S64x14x14x768_0_1_2_3
        (uitofp .f32 (broadcastInDim S64x14x14x1 ![0, 1, 2] bcast_S64x14x14_S64x14x14x1_0_1_2 (onGrid y x)))))
    (broadcastInDim S64x14x14x768 ![0, 1, 2, 3] bcast_S64x14x14x1_S64x14x14x768_0_1_2_3
      (broadcastInDim S64x14x14x1 ![0, 1, 2] bcast_S64x14x14_S64x14x14x1_0_1_2 w))

/-- One more than a place. -/
def next (p : FVec F S64x14x14 .f32) : FVec F S64x14x14 .f32 := addf p (num 0x3F800000#32)

/-- What is missing from one. -/
def rest (p : FVec F S64x14x14 .f32) : FVec F S64x14x14 .f32 := subf (num 0x3F800000#32) p

/-- The image sampled at the given places, the four corners summed. -/
def sample (im : FVec F S64x768x14x14 .f32) (px py : FVec F S64x14x14 .f32) : FVec F S64x14x14x768 .f32 :=
  addf (addf (addf
    (corner im (fptosi 32 (Host.floor py)) (fptosi 32 (Host.floor px))
      (mulf (rest (subf py (Host.floor py))) (rest (subf px (Host.floor px)))))
    (corner im (fptosi 32 (Host.floor py)) (fptosi 32 (next (Host.floor px)))
      (mulf (rest (subf py (Host.floor py))) (subf px (Host.floor px)))))
    (corner im (fptosi 32 (next (Host.floor py))) (fptosi 32 (Host.floor px))
      (mulf (subf py (Host.floor py)) (rest (subf px (Host.floor px))))))
    (corner im (fptosi 32 (next (Host.floor py))) (fptosi 32 (next (Host.floor px)))
      (mulf (subf py (Host.floor py)) (subf px (Host.floor px))))

/-- A row of ones above the sampled rows. -/
def underOnes (s : FVec F S64x14x14x768 .f32) : FVec F S64x197x768 .f32 :=
  concatenate S64x197x768 1
    [⟨S64x1x768, broadcastInDim S64x1x768 ![] bcast_S_S64x1x768 (constant S_ .f32 0x3F800000#32)⟩,
     ⟨S64x196x768, transpose S64x196x768 [0, 2, 1]
        (shapeCast _ (transpose S64x768x14x14 [0, 3, 1, 2] s transposes_S64x14x14x768_S64x768x14x14_0_3_1_2)
          shapeCasts_S64x768x14x14_S64x768x196) transposes_S64x768x196_S64x196x768_0_2_1⟩]
    concatenates_S64x1x768_S64x196x768_S64x197x768_d1

/-- The gate of every row: the logistic, written out, of a hundredth of the row product of sampled keys and queries. -/
def gate (sk q : FVec F S64x197x768 .f32) : FVec F S64x197 .f32 :=
  Host.divf (broadcastInDim S64x197 ![] bcast_S_S64x197 (constant S_ .f32 0x3F800000#32))
    (addf (broadcastInDim S64x197 ![] bcast_S_S64x197 (constant S_ .f32 0x3F800000#32))
      (Host.exp (Host.negf (mulf (broadcastInDim S64x197 ![] bcast_S_S64x197 (constant S_ .f32 0x3C23D70A#32))
        (Host.reduceAdd (mulf sk q) (constant S_ .f32 0x00000000#32) reducesTo_S64x197x768_S64x197_d2 h_S_)))))

/-- The gated rows of sampled values. -/
def gated (q sk sv : FVec F S64x197x768 .f32) : FVec F S64x197x768 .f32 :=
  mulf (broadcastInDim S64x197x768 ![0, 1, 2] bcast_S64x197x1_S64x197x768_0_1_2
      (broadcastInDim S64x197x1 ![0, 1] bcast_S64x197_S64x197x1_0_1 (gate sk q))) sv

/-- The sampling grid of all batch elements. -/
def refGrid (x : FVec F S64x197x768 .f32) (wq : FVec F S768x768 .f32) (bq : FVec F S768 .f32)
    (wk : FVec F S768x768 .f32) (bk : FVec F S768 .f32) (w1 : FVec F S1536x60 .f32) (b1 : FVec F S60 .f32)
    (w2 : FVec F S60x60 .f32) (b2 : FVec F S60 .f32) (w3 : FVec F S60x2 .f32) (b3 : FVec F S2 .f32) :
    FVec F S64x14x14x2 .f32 :=
  grid (coords (layer2 (layer1 (tokens (linear x wq bq)) (tokens (linear x wk bk)) w1 b1) w2 b2) w3 b3)

/-- The reference's result. -/
def ref (x : FVec F S64x197x768 .f32) (wq : FVec F S768x768 .f32) (bq : FVec F S768 .f32)
    (wk : FVec F S768x768 .f32) (bk : FVec F S768 .f32) (wv : FVec F S768x768 .f32) (bv : FVec F S768 .f32)
    (w1 : FVec F S1536x60 .f32) (b1 : FVec F S60 .f32)
    (w2 : FVec F S60x60 .f32) (b2 : FVec F S60 .f32) (w3 : FVec F S60x2 .f32) (b3 : FVec F S2 .f32) :
    FVec F S64x197x768 .f32 :=
  gated (linear x wq bq)
    (underOnes (sample (image (tokens (linear x wk bk)))
      (placeX (refGrid x wq bq wk bk w1 b1 w2 b2 w3 b3)) (placeY (refGrid x wq bq wk bk w1 b1 w2 b2 w3 b3))))
    (underOnes (sample (image (tokens (linear x wv bv)))
      (placeX (refGrid x wq bq wk bk w1 b1 w2 b2 w3 b3)) (placeY (refGrid x wq bq wk bk w1 b1 w2 b2 w3 b3))))

/-- Equal arguments give the reference's result equal. -/
theorem ref_congr {x x' : FVec F S64x197x768 .f32} {wq wq' : FVec F S768x768 .f32} {bq bq' : FVec F S768 .f32}
    {wk wk' : FVec F S768x768 .f32} {bk bk' : FVec F S768 .f32} {wv wv' : FVec F S768x768 .f32} {bv bv' : FVec F S768 .f32}
    {w1 w1' : FVec F S1536x60 .f32} {b1 b1' : FVec F S60 .f32} {w2 w2' : FVec F S60x60 .f32} {b2 b2' : FVec F S60 .f32}
    {w3 w3' : FVec F S60x2 .f32} {b3 b3' : FVec F S2 .f32}
    (hx : x = x') (hwq : wq = wq') (hbq : bq = bq') (hwk : wk = wk') (hbk : bk = bk') (hwv : wv = wv') (hbv : bv = bv')
    (hw1 : w1 = w1') (hb1 : b1 = b1') (hw2 : w2 = w2') (hb2 : b2 = b2') (hw3 : w3 = w3') (hb3 : b3 = b3') :
    ref x wq bq wk bk wv bv w1 b1 w2 b2 w3 b3 = ref x' wq' bq' wk' bk' wv' bv' w1' b1' w2' b2' w3' b3' := by
  subst hx hwq hbq hwk hbk hwv hbv hw1 hb1 hw2 hb2 hw3 hb3
  rfl

end Cert.RefStages

end
-- ==== Proof.RefSample.lean ====
/-
  What the reference's sampling gives at an index: rows sampled between four pixels.
-/
module

public import proofs.«01_k».proof.Proof.RefStages
public import proofs.«01_k».proof.Proof.Numbers
public import Idealize.ShloMosaic.Lib.Routing.Ops
public import Idealize.ShloMosaic.Lib.Routing.OpsSearch

@[expose] public section

noncomputable section

namespace Cert.RefStages

open Cert.ReferenceIdeal Cert.ReferenceIdeal.Gen Cert.Numbers Idealize.ShloMosaic

/-- The gather reads, channel by channel, the pixel its three index words name, each brought into range. -/
theorem gather_apply {α : Type} (im : S64x768x14x14.Idx → α) (idx : IVec S64x14x14x3 32) (e : Fin 64) (i j : Fin 14)
    (k : Fin 768) :
    Host.gather gather_S64x768x14x14_S64x14x14x3_S64x14x14x768_3_023_n_n_023_3_176811 im idx (ix4 e i j k)
      = im (ix4 ⟨min (idx (ix4 e i j 0)).toInt.toNat 63, by omega⟩ k
          ⟨min (idx (ix4 e i j 1)).toInt.toNat 13, by omega⟩ ⟨min (idx (ix4 e i j 2)).toInt.toNat 13, by omega⟩) := by
  have at_ : ∀ c : Fin 3, GatherDims.siIdx gather_S64x768x14x14_S64x14x14x3_S64x14x14x768_3_023_n_n_023_3_176811 (ix4 e i j k) c = ix4 e i j c := fun c => by
    funext b; refine Fin.ext ?_
    match b with
    | ⟨0, _⟩ => rfl
    | ⟨1, _⟩ => rfl
    | ⟨2, _⟩ => rfl
    | ⟨3, _⟩ => rfl
  unfold Host.gather
  refine congrArg im (funext fun a => Fin.ext ?_)
  show GatherDims.start gather_S64x768x14x14_S64x14x14x3_S64x14x14x768_3_023_n_n_023_3_176811 (ix4 e i j k) idx a + GatherDims.batchCoord gather_S64x768x14x14_S64x14x14x3_S64x14x14x768_3_023_n_n_023_3_176811 (ix4 e i j k) a
    + GatherDims.offCoord gather_S64x768x14x14_S64x14x14x3_S64x14x14x768_3_023_n_n_023_3_176811 (ix4 e i j k) a = _
  rw [GatherDims.batchCoord_eq_zero _ _ _ (by show a ∉ []; exact List.not_mem_nil), Nat.add_zero]
  match a with
  | ⟨0, _⟩ => exact congrArg (fun q => min (idx q).toInt.toNat 63) (at_ 0)
  | ⟨1, _⟩ => exact Nat.zero_add _
  | ⟨2, _⟩ => exact congrArg (fun q => min (idx q).toInt.toNat 13) (at_ 1)
  | ⟨3, _⟩ => exact congrArg (fun q => min (idx q).toInt.toNat 13) (at_ 2)

/-- Clipping and counting from the end leave a cell on the grid as it is. -/
theorem kept_word {a : ℕ} (ha : a < 14) :
    (Scalar.select (IntOp.cmpi .slt (IntOp.minsi 13#32 (IntOp.maxsi 0#32 (BitVec.ofNat 32 a))) 0#32)
      (IntOp.addi (IntOp.minsi 13#32 (IntOp.maxsi 0#32 (BitVec.ofNat 32 a))) 14#32)
      (IntOp.minsi 13#32 (IntOp.maxsi 0#32 (BitVec.ofNat 32 a)))).toInt.toNat = a := by
  have key : ∀ a : Fin 14, (Scalar.select (IntOp.cmpi .slt (IntOp.minsi 13#32 (IntOp.maxsi 0#32 (BitVec.ofNat 32 a))) 0#32)
      (IntOp.addi (IntOp.minsi 13#32 (IntOp.maxsi 0#32 (BitVec.ofNat 32 a))) 14#32)
      (IntOp.minsi 13#32 (IntOp.maxsi 0#32 (BitVec.ofNat 32 a)))).toInt.toNat = a.val := by decide
  exact key ⟨a, ha⟩

/-- Counting from the end leaves a batch element's number as it is. -/
theorem batch_word (e : Fin 64) :
    (Scalar.select (IntOp.cmpi .slt (BitVec.ofNat 32 e.val) 0#32) (IntOp.addi (BitVec.ofNat 32 e.val) 64#32)
      (BitVec.ofNat 32 e.val)).toInt.toNat = e.val := by
  revert e; decide

/-- What one corner gives: the row of its pixel, zero off the grid, times the weight. -/
theorem corner_apply (p : FVec Ideal S64x196x768 .f32) {y x : IVec S64x14x14 32} {w : FVec Ideal S64x14x14 .f32}
    (e : Fin 64) (i j : Fin 14) (k : Fin 768) {a b : ℕ} {wr : ℝ}
    (hw : w (ix3 e i j) = (wr : EReal)) (hy : y (ix3 e i j) = BitVec.ofNat 32 a) (hx : x (ix3 e i j) = BitVec.ofNat 32 b)
    (ha : a ≤ 14) (hb : b ≤ 14) :
    corner (image p) y x w (ix4 e i j k) = pixelAt (fun n => p (ix3 e n k)) a b * (wr : EReal) := by
  pointwise [corner, onGrid, word]
  rw [hw, hy, hx, onGrid_bit ha hb, uitofp_bit, gather_apply]
  congr 1
  unfold pixelAt
  by_cases h : a < 14 ∧ b < 14
  · have h0 : (pixel y x (ix4 e i j 0)).toInt.toNat = e.val := by
      pointwise [pixel, column, wrap, clip, word, batchIdx, batchNo]
      exact batch_word e
    have h1 : (pixel y x (ix4 e i j 1)).toInt.toNat = a := by
      pointwise [pixel, column, wrap, clip, word, batchIdx, batchNo]
      rw [hy]
      exact kept_word h.1
    have h2 : (pixel y x (ix4 e i j 2)).toInt.toNat = b := by
      pointwise [pixel, column, wrap, clip, word, batchIdx, batchNo]
      rw [hx]
      exact kept_word h.2
    rw [dif_pos h, if_pos (decide_eq_true h), mul_one]
    pointwise [image]
    have q0 : min (pixel y x (ix4 e i j 0)).toInt.toNat 63 = e.val := by omega
    have q1 : min (pixel y x (ix4 e i j 1)).toInt.toNat 13 = a := by omega
    have q2 : min (pixel y x (ix4 e i j 2)).toInt.toNat 13 = b := by omega
    simp only [q0, q1, q2]
  · rw [dif_neg h, if_neg (by simpa using h), mul_zero]

/-- The image of given rows sampled at given places is those rows sampled between four pixels. -/
theorem sample_apply {px py : FVec Ideal S64x14x14 .f32} {e : Fin 64} {i j : Fin 14} {rx ry : ℝ} (hx : 0 ≤ rx ∧ rx ≤ 1)
    (hy : 0 ≤ ry ∧ ry ≤ 1) (hpx : px (ix3 e i j) = ((spot rx : ℝ) : EReal)) (hpy : py (ix3 e i j) = ((spot ry : ℝ) : EReal))
    (p : FVec Ideal S64x196x768 .f32) (k : Fin 768) :
    sample (image p) px py (ix4 e i j k) = between (fun n => p (ix3 e n k)) rx ry := by
  have cx' := cell_le hx.1 hx.2
  have cy' := cell_le hy.1 hy.2
  have fx : Host.floor px (ix3 e i j) = ((cell rx : ℝ) : EReal) := by pointwise; rw [hpx, floor_spot hx.1]
  have fy : Host.floor py (ix3 e i j) = ((cell ry : ℝ) : EReal) := by pointwise; rw [hpy, floor_spot hy.1]
  have gx : subf px (Host.floor px) (ix3 e i j) = ((past rx : ℝ) : EReal) := by
    show px (ix3 e i j) - Host.floor px (ix3 e i j) = _
    rw [fx, hpx, ← EReal.coe_sub]; rfl
  have gy : subf py (Host.floor py) (ix3 e i j) = ((past ry : ℝ) : EReal) := by
    show py (ix3 e i j) - Host.floor py (ix3 e i j) = _
    rw [fy, hpy, ← EReal.coe_sub]; rfl
  have kx : rest (subf px (Host.floor px)) (ix3 e i j) = ((1 - past rx : ℝ) : EReal) := by
    pointwise [rest, num]
    show 1 - subf px (Host.floor px) (ix3 e i j) = _
    rw [gx, ← EReal.coe_one, ← EReal.coe_sub]
  have ky : rest (subf py (Host.floor py)) (ix3 e i j) = ((1 - past ry : ℝ) : EReal) := by
    pointwise [rest, num]
    show 1 - subf py (Host.floor py) (ix3 e i j) = _
    rw [gy, ← EReal.coe_one, ← EReal.coe_sub]
  have nx : next (Host.floor px) (ix3 e i j) = (((cell rx + 1 : ℕ) : ℝ) : EReal) := by
    pointwise [next, num]
    show Host.floor px (ix3 e i j) + 1 = _
    rw [fx]; norm_cast
  have ny : next (Host.floor py) (ix3 e i j) = (((cell ry + 1 : ℕ) : ℝ) : EReal) := by
    pointwise [next, num]
    show Host.floor py (ix3 e i j) + 1 = _
    rw [fy]; norm_cast
  have word : ∀ (v : FVec Ideal S64x14x14 .f32) (n : ℕ), v (ix3 e i j) = ((n : ℝ) : EReal) → n ≤ 14 →
      fptosi 32 v (ix3 e i j) = BitVec.ofNat 32 n := fun v n hv hn =>
    (congrArg (Ideal.fptosi 32) hv).trans (fptosi_nat n (by omega))
  have prod : ∀ (v w : FVec Ideal S64x14x14 .f32) (a b : ℝ), v (ix3 e i j) = (a : EReal) → w (ix3 e i j) = (b : EReal) →
      mulf v w (ix3 e i j) = ((a * b : ℝ) : EReal) := fun v w a b hv hw => by
    show v (ix3 e i j) * w (ix3 e i j) = _
    rw [hv, hw, EReal.coe_mul]
  pointwise [sample]
  rw [corner_apply p e i j k (prod _ _ _ _ ky kx) (word _ _ fy (by omega)) (word _ _ fx (by omega)) (by omega) (by omega),
    corner_apply p e i j k (prod _ _ _ _ ky gx) (word _ _ fy (by omega)) (word _ _ nx (by omega)) (by omega) (by omega),
    corner_apply p e i j k (prod _ _ _ _ gy kx) (word _ _ ny (by omega)) (word _ _ fx (by omega)) (by omega) (by omega),
    corner_apply p e i j k (prod _ _ _ _ gy gx) (word _ _ ny (by omega)) (word _ _ nx (by omega)) (by omega) (by omega)]
  rfl

/-- A coordinate on the grid scaled to its place. -/
theorem place_apply (g : FVec Ideal S64x14x14 .f32) (e : Fin 64) (i j : Fin 14) {r : ℝ} (hg : g (ix3 e i j) = (r : EReal)) :
    place g (ix3 e i j) = ((spot r : ℝ) : EReal) := by
  pointwise [place, num]
  rw [hg, fourteen, two, Ideal.div_coe two_ne_zero, ← EReal.coe_one, ← EReal.coe_add, ← EReal.coe_mul, ← EReal.coe_sub,
    ← EReal.coe_mul]
  congr 1; unfold spot; ring

variable {s : FVec Ideal S64x196x2 .f32} {u : Fin 196 → Fin 2 → ℝ} {e : Fin 64}

/-- The grid's coordinates, all first ones and then all second ones, are the list's. -/
theorem listed_real (u : Fin 196 → Fin 2 → ℝ) {q : ℕ} {n : Fin 392} (h : q = n.val) (hq : q < 392) :
    (if h : q < 196 then ((u ⟨q, h⟩ 0 : ℝ) : EReal) else ((u ⟨q - 196, by omega⟩ 1 : ℝ) : EReal))
      = ((listed u n : ℝ) : EReal) := by
  subst h; unfold listed
  split <;> rfl

/-- The column each grid cell samples at. -/
theorem placeX_apply (hs : ∀ t c, s (ix3 e t c) = ((u t c : ℝ) : EReal)) (i j : Fin 14) :
    placeX (grid s) (ix3 e i j) = ((spot (coordX u ⟨i.val * 14 + j.val, by omega⟩) : ℝ) : EReal) := by
  unfold placeX
  refine place_apply _ e i j ?_
  pointwise [grid]
  simp only [hs]
  unfold coordX
  exact listed_real u (by show _ = 2 * (i.val * 14 + j.val); omega) (by omega)

/-- The row each grid cell samples at. -/
theorem placeY_apply (hs : ∀ t c, s (ix3 e t c) = ((u t c : ℝ) : EReal)) (i j : Fin 14) :
    placeY (grid s) (ix3 e i j) = ((spot (coordY u ⟨i.val * 14 + j.val, by omega⟩) : ℝ) : EReal) := by
  unfold placeY
  refine place_apply _ e i j ?_
  pointwise [grid]
  simp only [hs]
  unfold coordY
  exact listed_real u (by show _ = 2 * (i.val * 14 + j.val) + 1; omega) (by omega)

end Cert.RefStages

end
-- ==== Proof.Equation.lean ====
/-
  One batch element: the kernel's `batch` of it is the reference's rows of it.
-/
module

public import proofs.«01_k».proof.Proof.BatchSample
public import proofs.«01_k».proof.Proof.RefSample

@[expose] public section

noncomputable section

namespace Cert.Equation

open Cert.ReferenceIdeal Cert.ReferenceIdeal.Gen Cert.Numbers Idealize.ShloMosaic

/-- One batch element's rows as the kernel holds them. -/
abbrev One : Type := FVec Ideal Cert.KernelIdeal.S1x197x768 .f32

/-- A bias of 768 entries as the kernel holds it. -/
abbrev Row768 : Type := FVec Ideal Cert.KernelIdeal.S1x768 .f32

/-- A bias of 60 entries as the kernel holds it. -/
abbrev Row60 : Type := FVec Ideal Cert.KernelIdeal.S1x60 .f32

/-- A bias of two entries as the kernel holds it. -/
abbrev Row2 : Type := FVec Ideal Cert.KernelIdeal.S1x2 .f32

/-- Half of the first layer's weights as the kernel holds them. -/
abbrev Half : Type := FVec Ideal Cert.KernelIdeal.S768x60 .f32

variable {e : Fin 64} {x : One} {X : FVec Ideal S64x197x768 .f32}

/-- The queries of one batch element are the reference's. -/
theorem queries_eq (hx : ∀ i k, x (ix3 0 i k) = X (ix3 e i k)) (w : FVec Ideal S768x768 .f32) {b : Row768}
    {B : FVec Ideal S768 .f32} (hb : ∀ j, b (ix2 0 j) = B (ix1 j)) (i : Fin 197) (j : Fin 768) :
    Cert.Batch.queries x w b (ix2 i j) = RefStages.linear X w B (ix3 e i j) := by
  pointwise [Cert.Batch.queries, Cert.Batch.rows, RefStages.linear]
  simp only [hx, hb]

/-- The keys (or the values) of one batch element are the reference's. -/
theorem keys_eq (hx : ∀ i k, x (ix3 0 i k) = X (ix3 e i k)) (w : FVec Ideal S768x768 .f32) {b : Row768}
    {B : FVec Ideal S768 .f32} (hb : ∀ j, b (ix2 0 j) = B (ix1 j)) (i : Fin 196) (j : Fin 768) :
    Cert.Batch.keys x w b (ix2 i j) = RefStages.tokens (RefStages.linear X w B) (ix3 e i j) := by
  pointwise [Cert.Batch.keys, Cert.Batch.tokens, Cert.Batch.rows, RefStages.tokens, RefStages.linear]
  simp only [hx, hb]

/-- The first layer of one batch element, its weights in two halves, is the reference's. -/
theorem layer1_eq {q : FVec Ideal Cert.KernelIdeal.S197x768 .f32} {Q : FVec Ideal S64x197x768 .f32}
    (hq : ∀ i j, q (ix2 i j) = Q (ix3 e i j)) {k : FVec Ideal Cert.KernelIdeal.S196x768 .f32}
    {L : FVec Ideal S64x196x768 .f32} (hk : ∀ i j, k (ix2 i j) = L (ix3 e i j)) {wa wb : Half}
    {w : FVec Ideal S1536x60 .f32} (ha : ∀ (i : Fin 768) j, wa (ix2 i j) = w (ix2 ⟨i.val, by omega⟩ j))
    (hw : ∀ (i : Fin 768) j, wb (ix2 i j) = w (ix2 ⟨768 + i.val, by omega⟩ j)) {b : Row60} {B : FVec Ideal S60 .f32}
    (hb : ∀ j, b (ix2 0 j) = B (ix1 j)) (i : Fin 196) (j : Fin 60) :
    Cert.Batch.layer1 q k wa wb b (ix2 i j) = RefStages.layer1 (RefStages.tokens Q) L w B (ix3 e i j) := by
  pointwise [Cert.Batch.layer1, RefStages.layer1, RefStages.tokens]
  simp only [hq, hk, ha, hw, hb]

/-- The second layer of one batch element is the reference's. -/
theorem layer2_eq {h : FVec Ideal Cert.KernelIdeal.S196x60 .f32} {H : FVec Ideal S64x196x60 .f32}
    (hh : ∀ i j, h (ix2 i j) = H (ix3 e i j)) (w : FVec Ideal S60x60 .f32) {b : Row60} {B : FVec Ideal S60 .f32}
    (hb : ∀ j, b (ix2 0 j) = B (ix1 j)) (i : Fin 196) (j : Fin 60) :
    Cert.Batch.layer2 h w b (ix2 i j) = RefStages.layer2 H w B (ix3 e i j) := by
  pointwise [Cert.Batch.layer2, RefStages.layer2]
  simp only [hh, hb]

/-- The sampling coordinates of one batch element are the reference's, and each is a real number in [0, 1]. -/
theorem coords_eq {h : FVec Ideal Cert.KernelIdeal.S196x60 .f32} {H : FVec Ideal S64x196x60 .f32}
    (hh : ∀ i j, h (ix2 i j) = H (ix3 e i j)) (w : FVec Ideal S60x2 .f32) {b : Row2} {B : FVec Ideal S2 .f32}
    (hb : ∀ j, b (ix2 0 j) = B (ix1 j)) (i : Fin 196) (j : Fin 2) :
    ∃ r : ℝ, 0 ≤ r ∧ r ≤ 1 ∧ Cert.Batch.coords h w b (ix2 i j) = (r : EReal) ∧ RefStages.coords H w B (ix3 e i j) = (r : EReal) := by
  have same : Cert.Batch.coords h w b (ix2 i j) = RefStages.coords H w B (ix3 e i j) := by
    pointwise [Cert.Batch.coords, RefStages.coords]
    simp only [hh, hb]
    rfl
  have unit : ∃ y, Cert.Batch.coords h w b (ix2 i j) = Ideal.logistic y := by
    pointwise [Cert.Batch.coords]
    exact ⟨_, rfl⟩
  obtain ⟨y, hy⟩ := unit
  obtain ⟨r, h0, h1, hr⟩ := logistic_unit y
  exact ⟨r, h0, h1, hy.trans hr, same.symm.trans (hy.trans hr)⟩

/-- Rows under a row of ones, one batch element against the reference's image. -/
theorem underOnes_eq {s : FVec Ideal Cert.KernelIdeal.S196x768 .f32} {G : FVec Ideal S64x14x14x768 .f32}
    (h : ∀ (i j : Fin 14) c, s (ix2 ⟨i.val * 14 + j.val, by omega⟩ c) = G (ix4 e i j c)) (i : Fin 197) (c : Fin 768) :
    Cert.Batch.underOnes s (ix2 i c) = RefStages.underOnes G (ix3 e i c) := by
  pointwise [Cert.Batch.underOnes, RefStages.underOnes]
  split
  · rfl
  · rw [← h]
    congr 2
    exact Fin.ext (by show i.val - 1 = (i.val - 1) / 14 * 14 + (i.val - 1) % 14; omega)

/-- The gated rows of one batch element are the reference's. -/
theorem gated_eq {q : FVec Ideal Cert.KernelIdeal.S197x768 .f32} {Q : FVec Ideal S64x197x768 .f32}
    (hq : ∀ i j, q (ix2 i j) = Q (ix3 e i j)) {s : FVec Ideal Cert.KernelIdeal.S196x1536 .f32}
    {GK GV : FVec Ideal S64x14x14x768 .f32}
    (hk : ∀ (i j : Fin 14) (c : Fin 768), s (ix2 ⟨i.val * 14 + j.val, by omega⟩ ⟨c.val, by omega⟩) = GK (ix4 e i j c))
    (hv : ∀ (i j : Fin 14) (c : Fin 768), s (ix2 ⟨i.val * 14 + j.val, by omega⟩ ⟨768 + c.val, by omega⟩) = GV (ix4 e i j c))
    (i : Fin 197) (c : Fin 768) :
    Cert.Batch.gated q s (ix3 0 i c) = RefStages.gated Q (RefStages.underOnes GK) (RefStages.underOnes GV) (ix3 e i c) := by
  pointwise [Cert.Batch.gated, RefStages.gated]
  congr 1
  · pointwise [Cert.Batch.gate, RefStages.gate]
    simp only [hq]
    have under : ∀ c : Fin 768, Cert.Batch.underOnes (extractStridedSlice Cert.KernelIdeal.S196x768 ![0, 0] s
        Cert.KernelIdeal.Gen.slices_S196x1536_o0_0_S196x768) (ix2 i c) = RefStages.underOnes GK (ix3 e i c) := fun c => by
      refine underOnes_eq (fun i j c => ?_) i c
      pointwise
      exact hk i j c
    simp only [under]
    rfl
  · refine underOnes_eq (fun i j c => ?_) i c
    pointwise
    exact hv i j c

/-- ONE BATCH ELEMENT: where the kernel's operands are the reference's, the two results agree. -/
theorem batch_eq (hx : ∀ i k, x (ix3 0 i k) = X (ix3 e i k)) (wq wk wv : FVec Ideal S768x768 .f32) {bq bk bv : Row768}
    {Bq Bk Bv : FVec Ideal S768 .f32} (hbq : ∀ j, bq (ix2 0 j) = Bq (ix1 j)) (hbk : ∀ j, bk (ix2 0 j) = Bk (ix1 j))
    (hbv : ∀ j, bv (ix2 0 j) = Bv (ix1 j)) {wa wb : Half} {w1 : FVec Ideal S1536x60 .f32}
    (ha : ∀ (i : Fin 768) j, wa (ix2 i j) = w1 (ix2 ⟨i.val, by omega⟩ j))
    (hw : ∀ (i : Fin 768) j, wb (ix2 i j) = w1 (ix2 ⟨768 + i.val, by omega⟩ j)) {b1 b2 : Row60} {B1 B2 : FVec Ideal S60 .f32}
    (hb1 : ∀ j, b1 (ix2 0 j) = B1 (ix1 j)) (w2 : FVec Ideal S60x60 .f32) (hb2 : ∀ j, b2 (ix2 0 j) = B2 (ix1 j))
    (w3 : FVec Ideal S60x2 .f32) {b3 : Row2} {B3 : FVec Ideal S2 .f32} (hb3 : ∀ j, b3 (ix2 0 j) = B3 (ix1 j))
    (i : Fin 197) (c : Fin 768) :
    Cert.Batch.batch x wq bq wk bk wv bv wa wb b1 w2 b2 w3 b3 (ix3 0 i c)
      = RefStages.ref X wq Bq wk Bk wv Bv w1 B1 w2 B2 w3 B3 (ix3 e i c) := by
  have hq := queries_eq (e := e) hx wq hbq
  have hk := keys_eq (e := e) hx wk hbk
  have hv := keys_eq (e := e) hx wv hbv
  have hc := coords_eq (layer2_eq (layer1_eq hq hk ha hw hb1) w2 hb2) w3 hb3
  choose u u0 u1 hs hS using hc
  have hu : ∀ t c, 0 ≤ u t c ∧ u t c ≤ 1 := fun t c => ⟨u0 t c, u1 t c⟩
  refine gated_eq hq (fun i j c => ?_) (fun i j c => ?_) i c
  · refine (Cert.Batch.sampled_keys hs hu _ _ _ c).trans (Eq.trans ?_ (RefStages.sample_apply (listed_unit hu _)
      (listed_unit hu _) (RefStages.placeX_apply hS i j) (RefStages.placeY_apply hS i j) _ c).symm)
    simp only [hk]
    rfl
  · refine (Cert.Batch.sampled_values hs hu _ _ _ c).trans (Eq.trans ?_ (RefStages.sample_apply (listed_unit hu _)
      (listed_unit hu _) (RefStages.placeX_apply hS i j) (RefStages.placeY_apply hS i j) _ c).symm)
    simp only [hv]
    rfl

end Cert.Equation

end
-- ==== Proof.Block.lean ====
/-
  One grid point: the block it writes is the reference's result of its eight batch elements.
-/
module

public import proofs.«01_k».proof.Proof.Pieces
public import proofs.«01_k».proof.Proof.Equation
public import Idealize.ShloMosaic.Lib.Pipeline.ValueKit

@[expose] public section

noncomputable section

namespace Cert.Block

open Cert.KernelIdeal Cert.KernelIdeal.Gen Idealize.ShloMosaic

/-- Element `b` of grid point `t` is one of the 64. -/
theorem element_lt {t b : ℕ} (ht : t < 8) (hb : b < 8) : t * 8 + b < 64 := by omega

/-- A row of the first half is one of the 1536. -/
theorem upper_lt {i : ℕ} (h : i < 768) : i < 1536 := by omega

/-- A row of the second half is one of the 1536. -/
theorem lower_lt {i : ℕ} (h : i < 768) : 768 + i < 1536 := by omega

/-- The eight batch elements of grid point `t`, cut out of an array of all 64. -/
def blockOf (t : Fin 8) (R : FVec Ideal S64x197x768 .f32) : S8x197x768.Idx → Elt Ideal .f32 := fun y =>
  R (ix3 ⟨t.val * 8 + (y 0).val, element_lt t.isLt (y 0).isLt⟩ (y 1) (y 2))

/-- Where in the whole array each place of the block lies. -/
theorem blockOf_apply {t : Fin 8} (R : FVec Ideal S64x197x768 .f32) (y : S8x197x768.Idx) (j : S64x197x768.Idx)
    (h0 : (j 0).val = t.val * 8 + (y 0).val) (h1 : (j 1).val = (y 1).val) (h2 : (j 2).val = (y 2).val) :
    blockOf t R y = R j := by
  refine congrArg R (funext fun a => Fin.ext ?_)
  match a with
  | ⟨0, _⟩ => exact h0.symm
  | ⟨1, _⟩ => exact h1.symm
  | ⟨2, _⟩ => exact h2.symm

variable {x0 : FVec Ideal S8x197x768 .f32} {X : FVec Ideal S64x197x768 .f32} {t : Fin 8} (wq wk wv : FVec Ideal S768x768 .f32)
  {bq bk bv : FVec Ideal S1x768 .f32} {Bq Bk Bv : FVec Ideal S768 .f32} {wa wb : FVec Ideal S768x60 .f32}
  {w1 : FVec Ideal S1536x60 .f32} {b1 b2 : FVec Ideal S1x60 .f32} {B1 B2 : FVec Ideal S60 .f32} (w2 : FVec Ideal S60x60 .f32)
  (w3 : FVec Ideal S60x2 .f32) {b3 : FVec Ideal S1x2 .f32} {B3 : FVec Ideal S2 .f32}
  (hx : ∀ (b : Fin 8) (i : Fin 197) (k : Fin 768), x0 (ix3 b i k) = X (ix3 ⟨t.val * 8 + b.val, element_lt t.isLt b.isLt⟩ i k))
  (hbq : ∀ j, bq (ix2 0 j) = Bq (ix1 j)) (hbk : ∀ j, bk (ix2 0 j) = Bk (ix1 j)) (hbv : ∀ j, bv (ix2 0 j) = Bv (ix1 j))
  (ha : ∀ (i : Fin 768) j, wa (ix2 i j) = w1 (ix2 ⟨i.val, upper_lt i.isLt⟩ j))
  (hw : ∀ (i : Fin 768) j, wb (ix2 i j) = w1 (ix2 ⟨768 + i.val, lower_lt i.isLt⟩ j))
  (hb1 : ∀ j, b1 (ix2 0 j) = B1 (ix1 j)) (hb2 : ∀ j, b2 (ix2 0 j) = B2 (ix1 j)) (hb3 : ∀ j, b3 (ix2 0 j) = B3 (ix1 j))

include hx hbq hbk hbv ha hw hb1 hb2 hb3

/-- One of the eight stores: at each place of its slab it holds the reference's result. -/
theorem slab_eq {n : ℕ} (hn : n < 8) (inb : ∀ a, (![n, 0, 0] : Fin 3 → ℕ) a + S1x197x768.size a ≤ S8x197x768.size a)
    (z : S1x197x768.Idx) :
    Cert.Batch.batch (F := Ideal) (View.ld x0 (Rect.unit (s := S8x197x768) ![n, 0, 0] S1x197x768.size inb)) (View.ld wq r0_1)
        (View.ld bq r0_2) (View.ld wk r0_1) (View.ld bk r0_2) (View.ld wv r0_1) (View.ld bv r0_2) (View.ld wa r0_3)
        (View.ld wb r0_3) (View.ld b1 r0_4) (View.ld w2 r0_5) (View.ld b2 r0_4) (View.ld w3 r0_6) (View.ld b3 r0_7) z
      = blockOf t (Cert.RefStages.ref X wq Bq wk Bk wv Bv w1 B1 w2 B2 w3 B3)
        ((Rect.unit (s := S8x197x768) ![n, 0, 0] S1x197x768.size inb).emb z) := by
  have l1 : ∀ w : Vec Ideal S768x768 .f32, View.ld w r0_1 = w := fun w =>
    View.ld_unit_zero (S := S768x768) (off := ![0, 0]) (by decide) _ w
  have l2 : ∀ w : Vec Ideal S1x768 .f32, View.ld w r0_2 = w := fun w =>
    View.ld_unit_zero (S := S1x768) (off := ![0, 0]) (by decide) _ w
  have l3 : ∀ w : Vec Ideal S768x60 .f32, View.ld w r0_3 = w := fun w =>
    View.ld_unit_zero (S := S768x60) (off := ![0, 0]) (by decide) _ w
  have l4 : ∀ w : Vec Ideal S1x60 .f32, View.ld w r0_4 = w := fun w =>
    View.ld_unit_zero (S := S1x60) (off := ![0, 0]) (by decide) _ w
  have l5 : ∀ w : Vec Ideal S60x60 .f32, View.ld w r0_5 = w := fun w =>
    View.ld_unit_zero (S := S60x60) (off := ![0, 0]) (by decide) _ w
  have l6 : ∀ w : Vec Ideal S60x2 .f32, View.ld w r0_6 = w := fun w =>
    View.ld_unit_zero (S := S60x2) (off := ![0, 0]) (by decide) _ w
  have l7 : ∀ w : Vec Ideal S1x2 .f32, View.ld w r0_7 = w := fun w =>
    View.ld_unit_zero (S := S1x2) (off := ![0, 0]) (by decide) _ w
  have hz : z = ix3 0 (z 1) (z 2) := by
    funext a; refine Fin.ext ?_
    match a with
    | ⟨0, _⟩ => have := (z 0).isLt; change (z 0).val < 1 at this; show (z 0).val = 0; omega
    | ⟨1, _⟩ => rfl
    | ⟨2, _⟩ => rfl
  rw [l1, l1, l1, l2, l2, l2, l3, l3, l4, l4, l5, l6, l7, hz]
  have at_ : ∀ (q : S1x197x768.Idx) (a : Fin 3), ((Rect.unit (s := S8x197x768) ![n, 0, 0] S1x197x768.size inb).idx q a).val
      = (![n, 0, 0] : Fin 3 → ℕ) a + (q a).val := fun q a =>
    Rect.idx_unit_val (s := S8x197x768) ![n, 0, 0] S1x197x768.size inb q a
  have place : ∀ (i : Fin 197) (k : Fin 768),
      (Rect.unit (s := S8x197x768) ![n, 0, 0] S1x197x768.size inb).idx (ix3 (n0 := 1) 0 i k) = ix3 ⟨n, hn⟩ i k := fun i k => by
    funext a; refine Fin.ext ?_
    match a with
    | ⟨0, _⟩ => exact at_ (ix3 0 i k) 0
    | ⟨1, _⟩ => exact (at_ (ix3 0 i k) 1).trans (Nat.zero_add _)
    | ⟨2, _⟩ => exact (at_ (ix3 0 i k) 2).trans (Nat.zero_add _)
  refine (Cert.Equation.batch_eq (e := ⟨t.val * 8 + n, by omega⟩) (X := X) (fun i k => ?_) wq wk wv hbq hbk hbv ha hw hb1 w2 hb2
    w3 hb3 (z 1) (z 2)).trans ?_
  · exact (congrArg x0 (place i k)).trans (hx ⟨n, hn⟩ i k)
  · have last : ∀ R : FVec Ideal S64x197x768 .f32, R (ix3 ⟨t.val * 8 + n, by omega⟩ (z 1) (z 2))
        = blockOf t R ((Rect.unit (s := S8x197x768) ![n, 0, 0] S1x197x768.size inb).emb (ix3 (n0 := 1) 0 (z 1) (z 2))) :=
      fun R => (congrArg (blockOf t R) (place (z 1) (z 2))).symm
    exact last _

/-- THE BLOCK: what grid point `t` writes at batch element `b` is the reference's result of element `8 t + b`. -/
theorem block_eq (y : S8x197x768.Idx) :
    out0_14 x0 wq bq wk bk wv bv wa wb b1 w2 b2 w3 b3 y
      = blockOf t (Cert.RefStages.ref X wq Bq wk Bk wv Bv w1 B1 w2 B2 w3 B3) y := by
  rw [Cert.Batch.out_pieces]
  refine View.canon_apply_of_pieces (blockOf t (Cert.RefStages.ref X wq Bq wk Bk wv Bv w1 B1 w2 B2 w3 B3))
    _ ?_ y (cover0_14 _ _ _ _ _ _ _ _ y)
  simp only [List.forall_mem_cons]
  have slab := fun {n : ℕ} (hn : n < 8) inb z => slab_eq wq wk wv w2 w3 hx hbq hbk hbv ha hw hb1 hb2 hb3 (n := n) hn inb z
  exact ⟨slab (by decide) _, slab (by decide) _, slab (by decide) _, slab (by decide) _, slab (by decide) _,
    slab (by decide) _, slab (by decide) _, slab (by decide) _, fun _ h => absurd h List.not_mem_nil⟩

end Cert.Block

end
-- ==== Proof.Array.lean ====
/-
  The kernel's result array after the run: the reference's result of the kernel's arguments.
-/
module

public import proofs.«01_k».proof.Proof.Block
public import proofs.«01_k».proof.Proof.Gen.KernelIdeal.Value
public import Idealize.ShloMosaic.Lib.Claim
public import Idealize.ShloMosaic.Lib.StableHlo.ReadAt

@[expose] public section

noncomputable section

namespace Cert.Array

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (c : Dev nD) (t : Fin cfg0.N)

/-- Which block of its array each window holds at a grid point: the grid point's own for the rows and the result, the only one
    for the weights and biases. -/
theorem index_eq : ∀ t : Fin grid0.N, win0_0.index t = ![t.val, 0, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![t.val, 0, 0] := by
  decide +kernel

/-- The rows a grid point reads: eight batch elements. -/
theorem rows_read (b : Fin 8) (i : Fin 197) (k : Fin 768) :
    (iblk m c 0 t : FVec Ideal S8x197x768 .f32) (ix3 b i k)
      = (m ((c : Thread nD τ).loc main_arg0) : FVec Ideal S64x197x768 .f32)
          (ix3 ⟨t.val * 8 + b.val, by have := t.isLt; change t.val < 8 at this; omega⟩ i k) := by
  blk_ext [iblk, V_main_arg0, index_eq t]

/-- The weights of the queries. -/
theorem wq_read : (iblk m c 1 t : FVec Ideal S768x768 .f32) = m ((c : Thread nD τ).loc main_arg2) := by
  funext y
  blk_ext [iblk, V_main_arg2, index_eq t]

/-- The weights of the keys. -/
theorem wk_read : (iblk m c 3 t : FVec Ideal S768x768 .f32) = m ((c : Thread nD τ).loc main_arg4) := by
  funext y
  blk_ext [iblk, V_main_arg4, index_eq t]

/-- The weights of the values. -/
theorem wv_read : (iblk m c 5 t : FVec Ideal S768x768 .f32) = m ((c : Thread nD τ).loc main_arg6) := by
  funext y
  blk_ext [iblk, V_main_arg6, index_eq t]

/-- The weights of the second layer. -/
theorem w2_read : (iblk m c 10 t : FVec Ideal S60x60 .f32) = m ((c : Thread nD τ).loc main_arg10) := by
  funext y
  blk_ext [iblk, V_main_arg10, index_eq t]

/-- The weights of the third layer. -/
theorem w3_read : (iblk m c 12 t : FVec Ideal S60x2 .f32) = m ((c : Thread nD τ).loc main_arg12) := by
  funext y
  blk_ext [iblk, V_main_arg12, index_eq t]

/-- The bias of the queries, as a row. -/
theorem bq_read (j : Fin 768) : (iblk m c 2 t : FVec Ideal S1x768 .f32) (ix2 0 j)
    = (m ((c : Thread nD τ).loc main_arg3) : FVec Ideal S768 .f32) (ix1 j) := by
  blk_point [iblk, V, index_eq t]

/-- The bias of the keys, as a row. -/
theorem bk_read (j : Fin 768) : (iblk m c 4 t : FVec Ideal S1x768 .f32) (ix2 0 j)
    = (m ((c : Thread nD τ).loc main_arg5) : FVec Ideal S768 .f32) (ix1 j) := by
  blk_point [iblk, V, index_eq t]

/-- The bias of the values, as a row. -/
theorem bv_read (j : Fin 768) : (iblk m c 6 t : FVec Ideal S1x768 .f32) (ix2 0 j)
    = (m ((c : Thread nD τ).loc main_arg7) : FVec Ideal S768 .f32) (ix1 j) := by
  blk_point [iblk, V, index_eq t]

/-- The bias of the first layer, as a row. -/
theorem b1_read (j : Fin 60) : (iblk m c 9 t : FVec Ideal S1x60 .f32) (ix2 0 j)
    = (m ((c : Thread nD τ).loc main_arg9) : FVec Ideal S60 .f32) (ix1 j) := by
  blk_point [iblk, V, index_eq t]

/-- The bias of the second layer, as a row. -/
theorem b2_read (j : Fin 60) : (iblk m c 11 t : FVec Ideal S1x60 .f32) (ix2 0 j)
    = (m ((c : Thread nD τ).loc main_arg11) : FVec Ideal S60 .f32) (ix1 j) := by
  blk_point [iblk, V, index_eq t]

/-- The bias of the third layer, as a row. -/
theorem b3_read (j : Fin 2) : (iblk m c 13 t : FVec Ideal S1x2 .f32) (ix2 0 j)
    = (m ((c : Thread nD τ).loc main_arg13) : FVec Ideal S2 .f32) (ix1 j) := by
  blk_point [iblk, V, index_eq t]

/-- The first half of the first layer's weights. -/
theorem wa_read (i : Fin 768) (j : Fin 60) : (iblk m c 7 t : FVec Ideal S768x60 .f32) (ix2 i j)
    = (m ((c : Thread nD τ).loc main_arg8) : FVec Ideal S1536x60 .f32) (ix2 ⟨i.val, by omega⟩ j) := by
  have cut : (V m c main_call0_v3 : FVec Ideal S768x60 .f32) (ix2 i j)
      = (m ((c : Thread nD τ).loc main_arg8) : FVec Ideal S1536x60 .f32) (ix2 ⟨i.val, by omega⟩ j) := by
    unfold V
    after_reads_at
  refine Eq.trans ?_ cut
  blk_ext [iblk, index_eq t]

/-- The second half of the first layer's weights. -/
theorem wb_read (i : Fin 768) (j : Fin 60) : (iblk m c 8 t : FVec Ideal S768x60 .f32) (ix2 i j)
    = (m ((c : Thread nD τ).loc main_arg8) : FVec Ideal S1536x60 .f32) (ix2 ⟨768 + i.val, by omega⟩ j) := by
  have cut : (V m c main_call0_v4 : FVec Ideal S768x60 .f32) (ix2 i j)
      = (m ((c : Thread nD τ).loc main_arg8) : FVec Ideal S1536x60 .f32) (ix2 ⟨768 + i.val, by omega⟩ j) := by
    unfold V
    after_reads_at
  refine Eq.trans ?_ cut
  blk_ext [iblk, index_eq t]

/-- THE ARRAY: the kernel leaves in its result the reference's result of its own arguments. -/
theorem array_eq : (dats m 0 c).arrAt 14 cfg0.N
    = (Cert.RefStages.ref (m ((c : Thread nD τ).loc main_arg0)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13)) : FVec Ideal S64x197x768 .f32) := by
  refine (dats m 0 c).arrAt_eq_of_covers 14 _ (by decide +kernel) fun t hf y => ?_
  blk_simp
  rw [after0_14, wq_read, wk_read, wv_read, w2_read, w3_read]
  refine (Cert.Block.block_eq (t := t) _ _ _ _ _ (rows_read m c t) (bq_read m c t) (bk_read m c t) (bv_read m c t)
    (wa_read m c t) (wb_read m c t) (b1_read m c t) (b2_read m c t) (b3_read m c t) y).trans ?_
  have placed : ∀ R : FVec Ideal S64x197x768 .f32,
      Cert.Block.blockOf t R y = R ((win0_14.blk t).view.emb y) := fun R => by
    refine Cert.Block.blockOf_apply R y _ ?_ ?_ ?_
    · blk_simp [index_eq t]
    · blk_simp [index_eq t]
    · blk_simp [index_eq t]
  exact placed _

end Cert.Array

end
-- ==== Proof.RefRun.lean ====
/-
  The reference's run: what it leaves in its result is `RefStages.ref` of its arguments.
-/
module

public import proofs.«01_k».proof.Proof.Gen.ReferenceIdeal.Run
public import proofs.«01_k».proof.Proof.RefStages

@[expose] public section

noncomputable section

namespace Cert.RefRun

open Cert.ReferenceIdeal Cert.ReferenceIdeal.Gen Cert.ReferenceIdeal.Value Idealize.ShloMosaic Idealize.ShloMosaic.TcCoe
open Idealize.SL.Sem Idealize.ShloMosaic.StableHlo

variable {F : FTy → Type} [FloatOps F]

set_option maxRecDepth 16384 in
/-- The stages composed are the operations composed. -/
theorem stages (V : Valuation τ sig (Elt F)) :
    mulf (broadcastInDim S64x197x768 ![0, 1, 2] bcast_S64x197x1_S64x197x768_0_1_2 (broadcastInDim S64x197x1 ![0, 1] bcast_S64x197_S64x197x1_0_1 (Host.divf (broadcastInDim S64x197 ![] bcast_S_S64x197 (constant S_ .f32 0x3F800000#32)) (addf (broadcastInDim S64x197 ![] bcast_S_S64x197 (constant S_ .f32 0x3F800000#32)) (Host.exp (Host.negf (mulf (broadcastInDim S64x197 ![] bcast_S_S64x197 (constant S_ .f32 0x3C23D70A#32)) (Host.reduceAdd (mulf (concatenate S64x197x768 1 [⟨S64x1x768, (res_main_v488 V)⟩, ⟨S64x196x768, (transpose S64x196x768 [0, 2, 1] (shapeCast _ (transpose S64x768x14x14 [0, 3, 1, 2] (res_main_v262 V) transposes_S64x14x14x768_S64x768x14x14_0_3_1_2) shapeCasts_S64x768x14x14_S64x768x196) transposes_S64x768x196_S64x196x768_0_2_1)⟩] concatenates_S64x1x768_S64x196x768_S64x197x768_d1) (res_main_v3 V)) (constant S_ .f32 0x00000000#32) reducesTo_S64x197x768_S64x197_d2 h_S_)))))))) (concatenate S64x197x768 1 [⟨S64x1x768, (res_main_v488 V)⟩, ⟨S64x196x768, (transpose S64x196x768 [0, 2, 1] (shapeCast _ (transpose S64x768x14x14 [0, 3, 1, 2] (res_main_v482 V) transposes_S64x14x14x768_S64x768x14x14_0_3_1_2) shapeCasts_S64x768x14x14_S64x768x196) transposes_S64x768x196_S64x196x768_0_2_1)⟩] concatenates_S64x1x768_S64x196x768_S64x197x768_d1)
      = RefStages.ref (V (Proc.devRef .tc main_arg0)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) := by
  rfl

end Cert.RefRun

end
-- ==== Proof.lean ====
/-
  The five claims: every run of the kernel, of its ideal form and of the reference ends with the arguments as they were; the
  ideal form is the kernel's; and the two ideal programs leave one result.
-/
module

public import proofs.«01_k».proof.Defs
public import proofs.«01_k».proof.Proof.Gen.Kernel.Frame
public import proofs.«01_k».proof.Proof.Array
public import proofs.«01_k».proof.Proof.RefRun
public import Idealize.ShloMosaic.Lib.StableHlo.RunHlo
public import Idealize.ShloMosaic.Lib.Quiescent
public import Idealize.ShloMosaic.Adequacy
public import Idealize.ShloMosaic.Init

@[expose] public section

noncomputable section

namespace Cert.Proof

open Idealize.ShloMosaic Idealize.SL.Sem

/-- The reference ends with its arguments as they were, and it has no counter that could end at another value than zero. -/
theorem reference_frame : Cert.quiescent_ReferenceIdeal := by
  intro m ρ _
  refine (θ_run Cert.ReferenceIdeal.defs _ _).mono (fun r h => ⟨fun c => (h c).2, ?_⟩)
    (Cert.ReferenceIdeal.Value.run (F := Ideal) m ρ)
  exact sem_eq_zero_of_no_sems (by decide) r.2

/-- What the reference leaves, of arguments equal to the kernel's, is what the kernel leaves. -/
theorem one_result : Cert.algebraic_KernelIdeal_ReferenceIdeal := by
  pair_intro
  · run_from (Cert.KernelIdeal.Value.run_blocks m g)
  · run_from (Cert.ReferenceIdeal.Value.run m' g')
    refine (Cert.RefRun.stages (StableHlo.launchContents m' c)).trans
      (Eq.trans ?_ (Cert.Array.array_eq m c).symm)
    obtain ⟨h0, -, h2, h3, h4, h5, h6, h7, h8, h9, h10, h11, h12, h13⟩ := hagree c
    exact Cert.RefStages.ref_congr h0 h2 h3 h4 h5 h6 h7 h8 h9 h10 h11 h12 h13

/-- The claims, in the order the certificate states them. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, reference_frame, trivial, one_result⟩

end Cert.Proof

end
